-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S16x3x32768 : Shape := ⟨3, ![16, 3, 32768]⟩
abbrev S16x16x32768 : Shape := ⟨3, ![16, 16, 32768]⟩
abbrev S32x19 : Shape := ⟨2, ![32, 19]⟩
abbrev S32 : Shape := ⟨1, ![32]⟩
abbrev S32x32 : Shape := ⟨2, ![32, 32]⟩
abbrev S_ : Shape := ⟨0, ![]⟩

class Facts : Prop where
  bcast_S_S16x3x32768 : S_.BroadcastsInDim S16x3x32768 (![] : Fin 0 → Fin S16x3x32768.rank)
  reducesTo_S16x3x32768_S_d0_1_2 : S16x3x32768.ReducesTo [0, 1, 2] S_
  h_S_ : 0 < S_.numel
  bcast_S_S16x16x32768 : S_.BroadcastsInDim S16x16x32768 (![] : Fin 0 → Fin S16x16x32768.rank)
  reducesTo_S16x16x32768_S_d0_1_2 : S16x16x32768.ReducesTo [0, 1, 2] S_
  bcast_S_S32x19 : S_.BroadcastsInDim S32x19 (![] : Fin 0 → Fin S32x19.rank)
  reducesTo_S32x19_S_d0_1 : S32x19.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_arg8 : FVec F S32 .f32) (main_arg9 : FVec F S32 .f32) (main_v29 : IVec S_ 1) (main_v32 : IVec S32x32 1) (main_c_12 : IVec S_ 1) : IVec S_ 1 :=
  let main_v33 : IVec S_ 1 := (fun x v => Host.reduce IntOp.andi x v reducesTo_S32x32_S_d0_1 h_S_) main_v32 main_c_12
  let main_v34 : IVec S_ 1 := andi main_v29 main_v33
  let main_v35 : FVec F S32 .f32 := Host.absf main_arg7
  let main_cst_13 : FVec F S_ .f32 := constant S_ .f32 0x7F800000#32
  let main_v36 : FVec F S32 .f32 := broadcastInDim S32 ![] bcast_S_S32 main_cst_13
  let main_v37 : IVec S32 1 := cmpf .olt main_v35 main_v36
  let main_c_14 : IVec S_ 1 := constantI S_ 1 1#1
  let main_v38 : IVec S_ 1 := (fun x v => Host.reduce IntOp.andi x v reducesTo_S32_S_d0 h_S_) main_v37 main_c_14
  let main_v39 : IVec S_ 1 := andi main_v34 main_v38
  let main_v40 : FVec F S32 .f32 := Host.absf main_arg8
  let main_cst_15 : FVec F S_ .f32 := constant S_ .f32 0x7F800000#32
  let main_v41 : FVec F S32 .f32 := broadcastInDim S32 ![] bcast_S_S32 main_cst_15
  let main_v42 : IVec S32 1 := cmpf .olt main_v40 main_v41
  let main_c_16 : IVec S_ 1 := constantI S_ 1 1#1
  let main_v43 : IVec S_ 1 := (fun x v => Host.reduce IntOp.andi x v reducesTo_S32_S_d0 h_S_) main_v42 main_c_16
  let main_v44 : IVec S_ 1 := andi main_v39 main_v43
  let main_v45 : FVec F S32 .f32 := Host.absf main_arg9
  let main_cst_17 : FVec F S_ .f32 := constant S_ .f32 0x7F800000#32
  let main_v46 : FVec F S32 .f32 := broadcastInDim S32 ![] bcast_S_S32 main_cst_17
  let main_v47 : IVec S32 1 := cmpf .olt main_v45 main_v46
  let main_c_18 : IVec S_ 1 := constantI S_ 1 1#1
  let main_v48 : IVec S_ 1 := (fun x v => Host.reduce IntOp.andi x v reducesTo_S32_S_d0 h_S_) main_v47 main_c_18
  let main_v49 : IVec S_ 1 := andi main_v44 main_v48
  main_v49

def fn_part1 {F : FTy → Type} [FloatOps F] (main_arg4 : FVec F S32 .f32) (main_arg5 : FVec F S32 .f32) (main_arg6 : FVec F S32x32 .f32) (main_arg7 : FVec F S32 .f32) (main_arg8 : FVec F S32 .f32) (main_arg9 : FVec F S32 .f32) (main_v14 : IVec S_ 1) (main_v15 : FVec F S32 .f32) (main_cst_5 : FVec F S_ .f32) : IVec S_ 1 :=
  let main_v16 : FVec F S32 .f32 := broadcastInDim S32 ![] bcast_S_S32 main_cst_5
  let main_v17 : IVec S32 1 := cmpf .olt main_v15 main_v16
  let main_c_6 : IVec S_ 1 := constantI S_ 1 1#1
  let main_v18 : IVec S_ 1 := (fun x v => Host.reduce IntOp.andi x v reducesTo_S32_S_d0 h_S_) main_v17 main_c_6
  let main_v19 : IVec S_ 1 := andi main_v14 main_v18
  let main_v20 : FVec F S32 .f32 := Host.absf main_arg4
  let main_cst_7 : FVec F S_ .f32 := constant S_ .f32 0x7F800000#32
  let main_v21 : FVec F S32 .f32 := broadcastInDim S32 ![] bcast_S_S32 main_cst_7
  let main_v22 : IVec S32 1 := cmpf .olt main_v20 main_v21
  let main_c_8 : IVec S_ 1 := constantI S_ 1 1#1
  let main_v23 : IVec S_ 1 := (fun x v => Host.reduce IntOp.andi x v reducesTo_S32_S_d0 h_S_) main_v22 main_c_8
  let main_v24 : IVec S_ 1 := andi main_v19 main_v23
  let main_v25 : FVec F S32 .f32 := Host.absf main_arg5
  let main_cst_9 : FVec F S_ .f32 := constant S_ .f32 0x7F800000#32
  let main_v26 : FVec F S32 .f32 := broadcastInDim S32 ![] bcast_S_S32 main_cst_9
  let main_v27 : IVec S32 1 := cmpf .olt main_v25 main_v26
  let main_c_10 : IVec S_ 1 := constantI S_ 1 1#1
  let main_v28 : IVec S_ 1 := (fun x v => Host.reduce IntOp.andi x v reducesTo_S32_S_d0 h_S_) main_v27 main_c_10
  let main_v29 : IVec S_ 1 := andi main_v24 main_v28
  let main_v30 : FVec F S32x32 .f32 := Host.absf main_arg6
  let main_cst_11 : FVec F S_ .f32 := constant S_ .f32 0x7F800000#32
  let main_v31 : FVec F S32x32 .f32 := broadcastInDim S32x32 ![] bcast_S_S32x32 main_cst_11
  let main_v32 : IVec S32x32 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S16x3x32768 .f32) (main_arg1 : FVec F S16x16x32768 .f32) (main_arg2 : FVec F S32x19 .f32) (main_arg3 : FVec F S32 .f32) (main_arg4 : FVec F S32 .f32) (main_arg5 : FVec F S32 .f32) (main_arg6 : FVec F S32x32 .f32) (main_arg7 : FVec F S32 .f32) (main_arg8 : FVec F S32 .f32) (main_arg9 : FVec F S32 .f32) : IVec S_ 1 :=
  let main_v0 : FVec F S16x3x32768 .f32 := Host.absf main_arg0
  let main_cst : FVec F S_ .f32 := constant S_ .f32 0x7F800000#32
  let main_v1 : FVec F S16x3x32768 .f32 := broadcastInDim S16x3x32768 ![] bcast_S_S16x3x32768 main_cst
  let main_v2 : IVec S16x3x32768 1 := cmpf .olt main_v0 main_v1
  let main_c : IVec S_ 1 := constantI S_ 1 1#1
  let main_v3 : IVec S_ 1 := (fun x v => Host.reduce IntOp.andi x v reducesTo_S16x3x32768_S_d0_1_2 h_S_) main_v2 main_c
  let main_c_0 : IVec S_ 1 := constantI S_ 1 1#1
  let main_v4 : IVec S_ 1 := andi main_c_0 main_v3
  let main_v5 : FVec F S16x16x32768 .f32 := Host.absf main_arg1
  let main_cst_1 : FVec F S_ .f32 := constant S_ .f32 0x7F800000#32
  let main_v6 : FVec F S16x16x32768 .f32 := broadcastInDim S16x16x32768 ![] bcast_S_S16x16x32768 main_cst_1
  let main_v7 : IVec S16x16x32768 1 := cmpf .olt main_v5 main_v6
  let main_c_2 : IVec S_ 1 := constantI S_ 1 1#1
  let main_v8 : IVec S_ 1 := (fun x v => Host.reduce IntOp.andi x v reducesTo_S16x16x32768_S_d0_1_2 h_S_) main_v7 main_c_2
  let main_v9 : IVec S_ 1 := andi main_v4 main_v8
  let main_v10 : FVec F S32x19 .f32 := Host.absf main_arg2
  let main_cst_3 : FVec F S_ .f32 := constant S_ .f32 0x7F800000#32
  let main_v11 : FVec F S32x19 .f32 := broadcastInDim S32x19 ![] bcast_S_S32x19 main_cst_3
  let main_v12 : IVec S32x19 1 := cmpf .olt main_v10 main_v11
  let main_c_4 : IVec S_ 1 := constantI S_ 1 1#1
  let main_v13 : IVec S_ 1 := (fun x v => Host.reduce IntOp.andi x v reducesTo_S32x19_S_d0_1 h_S_) main_v12 main_c_4
  let main_v14 : IVec S_ 1 := andi main_v9 main_v13
  let main_v15 : FVec F S32 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Kernel.lean ====
abbrev S16x3x32768 : Shape := ⟨3, ![16, 3, 32768]⟩
abbrev S16x16x32768 : Shape := ⟨3, ![16, 16, 32768]⟩
abbrev S32x19 : Shape := ⟨2, ![32, 19]⟩
abbrev S32 : Shape := ⟨1, ![32]⟩
abbrev S32x32 : Shape := ⟨2, ![32, 32]⟩
abbrev S32x3 : Shape := ⟨2, ![32, 3]⟩
abbrev S32x16 : Shape := ⟨2, ![32, 16]⟩
abbrev S_ : Shape := ⟨0, ![]⟩
abbrev S32x1 : Shape := ⟨2, ![32, 1]⟩
abbrev S1x3x8192 : Shape := ⟨3, ![1, 3, 8192]⟩
abbrev S1x16x8192 : Shape := ⟨3, ![1, 16, 8192]⟩
abbrev S32x32x16384 : Shape := ⟨3, ![32, 32, 16384]⟩
abbrev S32x128 : Shape := ⟨2, ![32, 128]⟩
abbrev S3x8192 : Shape := ⟨2, ![3, 8192]⟩
abbrev S32x8192 : Shape := ⟨2, ![32, 8192]⟩
abbrev S16x8192 : Shape := ⟨2, ![16, 8192]⟩
abbrev S32x4096 : Shape := ⟨2, ![32, 4096]⟩
abbrev S32x2048 : Shape := ⟨2, ![32, 2048]⟩
abbrev S32x1024 : Shape := ⟨2, ![32, 1024]⟩
abbrev S32x512 : Shape := ⟨2, ![32, 512]⟩
abbrev S32x256 : Shape := ⟨2, ![32, 256]⟩
abbrev S1x32x8192 : Shape := ⟨3, ![1, 32, 8192]⟩
abbrev S1x32x16384 : Shape := ⟨3, ![1, 32, 16384]⟩
abbrev S32x16384 : Shape := ⟨2, ![32, 16384]⟩
abbrev S16x32 : Shape := ⟨2, ![16, 32]⟩
abbrev S16x32x1 : Shape := ⟨3, ![16, 32, 1]⟩
abbrev S16x3x1 : Shape := ⟨3, ![16, 3, 1]⟩

abbrev nBuf : Space → Nat
  | .hbm => 39
  | .vmem => 34
  | .smem => 0
  | _ => 0

abbrev bufTy : (tb : Table) → Fin (tcTables nBuf tb) → BufTy
  | .hbm, ⟨0, _⟩ => ⟨S16x3x32768, .f32⟩
  | .hbm, ⟨1, _⟩ => ⟨S16x16x32768, .f32⟩
  | .hbm, ⟨2, _⟩ => ⟨S32x19, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x3, .f32⟩
  | .hbm, ⟨11, _⟩ => ⟨S32x16, .f32⟩
  | .hbm, ⟨12, _⟩ => ⟨S32x19, .f32⟩
  | .hbm, ⟨13, _⟩ => ⟨S_, .f32⟩
  | .hbm, ⟨14, _⟩ => ⟨S32, .f32⟩
  | .hbm, ⟨15, _⟩ => ⟨S32x1, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S_, .f32⟩
  | .hbm, ⟨21, _⟩ => ⟨S32x1, .f32⟩
  | .hbm, ⟨22, _⟩ => ⟨S32x1, .f32⟩
  | .hbm, ⟨23, _⟩ => ⟨S_, .f32⟩
  | .hbm, ⟨24, _⟩ => ⟨S32x1, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1, .f32⟩
  | .hbm, ⟨30, _⟩ => ⟨S32x1, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S32x16, .f32⟩
  | .hbm, ⟨35, _⟩ => ⟨S16x32, .f32⟩
  | .hbm, ⟨36, _⟩ => ⟨S16x32x1, .f32⟩
  | .hbm, ⟨37, _⟩ => ⟨S_, .f32⟩
  | .hbm, ⟨38, _⟩ => ⟨S16x3x1, .f32⟩
  | .local _ .vmem, ⟨0, _⟩ => ⟨S1x3x8192, .f32⟩
  | .local _ .vmem, ⟨1, _⟩ => ⟨S1x3x8192, .f32⟩
  | .local _ .vmem, ⟨2, _⟩ => ⟨S1x3x8192, .f32⟩
  | .local _ .vmem, ⟨3, _⟩ => ⟨S1x3x8192, .f32⟩
  | .local _ .vmem, ⟨4, _⟩ => ⟨S1x3x8192, .f32⟩
  | .local _ .vmem, ⟨5, _⟩ => ⟨S1x3x8192, .f32⟩
  | .local _ .vmem, ⟨6, _⟩ => ⟨S1x3x8192, .f32⟩
  | .local _ .vmem, ⟨7, _⟩ => ⟨S1x3x8192, .f32⟩
  | .local _ .vmem, ⟨8, _⟩ => ⟨S1x16x8192, .f32⟩
  | .local _ .vmem, ⟨9, _⟩ => ⟨S1x16x8192, .f32⟩
  | .local _ .vmem, ⟨10, _⟩ => ⟨S1x16x8192, .f32⟩
  | .local _ .vmem, ⟨11, _⟩ => ⟨S1x16x8192, .f32⟩
  | .local _ .vmem, ⟨12, _⟩ => ⟨S1x16x8192, .f32⟩
  | .local _ .vmem, ⟨13, _⟩ => ⟨S1x16x8192, .f32⟩
  | .local _ .vmem, ⟨14, _⟩ => ⟨S1x16x8192, .f32⟩
  | .local _ .vmem, ⟨15, _⟩ => ⟨S1x16x8192, .f32⟩
  | .local _ .vmem, ⟨16, _⟩ => ⟨S32x3, .f32⟩
  | .local _ .vmem, ⟨17, _⟩ => ⟨S32x16, .f32⟩
  | .local _ .vmem, ⟨18, _⟩ => ⟨S32x1, .f32⟩
  | .local _ .vmem, ⟨19, _⟩ => ⟨S32x1, .f32⟩
  | .local _ .vmem, ⟨20, _⟩ => ⟨S32x1, .f32⟩
  | .local _ .vmem, ⟨21, _⟩ => ⟨S32x1, .f32⟩
  | .local _ .vmem, ⟨22, _⟩ => ⟨S32x32, .f32⟩
  | .local _ .vmem, ⟨23, _⟩ => ⟨S32x1, .f32⟩
  | .local _ .vmem, ⟨24, _⟩ => ⟨S32x1, .f32⟩
  | .local _ .vmem, ⟨25, _⟩ => ⟨S32x1, .f32⟩
  | .local _ .vmem, ⟨26, _⟩ => ⟨S32x16, .f32⟩
  | .local _ .vmem, ⟨27, _⟩ => ⟨S32x32x16384, .i16⟩
  | .local _ .vmem, ⟨28, _⟩ => ⟨S32x128, .f32⟩
  | .local _ .vmem, ⟨29, _⟩ => ⟨S32x128, .f32⟩
  | .local _ .vmem, ⟨30, _⟩ => ⟨S32x128, .f32⟩
  | .local _ .vmem, ⟨31, _⟩ => ⟨S32x128, .f32⟩
  | .local _ .vmem, ⟨32, _⟩ => ⟨S32x16, .f32⟩
  | .local _ .vmem, ⟨33, _⟩ => ⟨S32x16, .f32⟩
  | _, _ => ⟨S16x3x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![16], ![false]⟩

def k0_off1 (i : grid0.Coords) (c0_i32_23 : BitVec 32) : Fin 3 → Nat :=
  let arg0 : BitVec 32 := BitVec.ofNat 32 (i 0).val
  let c2_i32 : BitVec 32 := 2#32
  let v70 : BitVec 32 := Scalar.muli arg0 c2_i32
  let v71 : BitVec 32 := Scalar.addi v70 c0_i32_23
  let v72 : Index := Scalar.indexCast v71
  let c0_24 : Index := 0#32
  let c0_25 : Index := 0#32
  ![v72.toNat, 0, 0]
def k0_off2 (i : grid0.Coords) (c0_i32_51 : BitVec 32) : Fin 3 → Nat :=
  let arg0 : BitVec 32 := BitVec.ofNat 32 (i 0).val
  let c2_i32_50 : BitVec 32 := 2#32
  let v143 : BitVec 32 := Scalar.muli arg0 c2_i32_50
  let v144 : BitVec 32 := Scalar.addi v143 c0_i32_51
  let v145 : Index := Scalar.indexCast v144
  let c0_52 : Index := 0#32
  let c8192 : Index := 8192#32
  ![v145.toNat, 0, 8192]
def k0_cond2 (i : grid0.Coords) : BitVec 1 :=
  let arg0 : BitVec 32 := BitVec.ofNat 32 (i 0).val
  let c15_i32 : BitVec 32 := 15#32
  let v295 : BitVec 1 := Scalar.cmpi .eq arg0 c15_i32
  let v296 : BitVec 32 := Scalar.extui v295
  let c0_i32_108 : BitVec 32 := 0#32
  let v297 : BitVec 1 := Scalar.cmpi .ne v296 c0_i32_108
  v297

@[reducible] def k0_t1_loop : Scf.Loop 32 :=
  let c0_i32_136 : BitVec 32 := 0#32
  let c16_i32 : BitVec 32 := 16#32
  let v340 : BitVec 32 := Scalar.addi c0_i32_136 c16_i32
  let c1_i32_137 : BitVec 32 := 1#32
  ⟨c0_i32_136, v340, c1_i32_137⟩
def k0_off3 (k0_t1 : Fin k0_t1_loop.trips) : Fin 3 → Nat :=
  let c2_i32_160 : BitVec 32 := 2#32
  let c0_i32_136 : BitVec 32 := 0#32
  let c1_i32_137 : BitVec 32 := 1#32
  let arg27 : BitVec 32 := Scf.iv c0_i32_136 c1_i32_137 k0_t1
  let v377 : BitVec 32 := Scalar.muli c2_i32_160 arg27
  let v378 : Index := Scalar.indexCast v377
  let c0_161 : Index := 0#32
  let c0_162 : Index := 0#32
  ![v378.toNat, 0, 0]
def k0_off4 (k0_t1 : Fin k0_t1_loop.trips) : Fin 3 → Nat :=
  let c2_i32_163 : BitVec 32 := 2#32
  let c0_i32_136 : BitVec 32 := 0#32
  let c1_i32_137 : BitVec 32 := 1#32
  let arg27 : BitVec 32 := Scf.iv c0_i32_136 c1_i32_137 k0_t1
  let v382 : BitVec 32 := Scalar.muli c2_i32_163 arg27
  let c1_i32_164 : BitVec 32 := 1#32
  let v383 : BitVec 32 := Scalar.addi v382 c1_i32_164
  let v384 : Index := Scalar.indexCast v383
  let c0_165 : Index := 0#32
  let c0_166 : Index := 0#32
  ![v384.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_6 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_7 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S16x3x32768 : Shape := ⟨3, ![16, 3, 32768]⟩
abbrev S16x16x32768 : Shape := ⟨3, ![16, 16, 32768]⟩
abbrev S32x19 : Shape := ⟨2, ![32, 19]⟩
abbrev S32 : Shape := ⟨1, ![32]⟩
abbrev S32x32 : Shape := ⟨2, ![32, 32]⟩
abbrev S16x19x32768 : Shape := ⟨3, ![16, 19, 32768]⟩
abbrev S_ : Shape := ⟨0, ![]⟩
abbrev S32x16x32768 : Shape := ⟨3, ![32, 16, 32768]⟩
abbrev S16x32x32768 : Shape := ⟨3, ![16, 32, 32768]⟩
abbrev S1x32x1 : Shape := ⟨3, ![1, 32, 1]⟩
abbrev S16x3x1 : Shape := ⟨3, ![16, 3, 1]⟩
abbrev S16x32 : Shape := ⟨2, ![16, 32]⟩
abbrev S16x32x1 : Shape := ⟨3, ![16, 32, 1]⟩

abbrev nBuf : Space → Nat
  | .hbm => 126
  | .vmem => 0
  | .smem => 0
  | _ => 0

abbrev bufTy : (tb : Table) → Fin (tcTables nBuf tb) → BufTy
  | .hbm, ⟨0, _⟩ => ⟨S16x3x32768, .f32⟩
  | .hbm, ⟨1, _⟩ => ⟨S16x16x32768, .f32⟩
  | .hbm, ⟨2, _⟩ => ⟨S32x19, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S16x19x32768, .f32⟩
  | .hbm, ⟨11, _⟩ => ⟨S32x19, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x16x32768, .f32⟩
  | .hbm, ⟨25, _⟩ => ⟨S16x32x32768, .f32⟩
  | .hbm, ⟨26, _⟩ => ⟨S1x32x1, .f32⟩
  | .hbm, ⟨27, _⟩ => ⟨S16x32x32768, .f32⟩
  | .hbm, ⟨28, _⟩ => ⟨S16x32x32768, .f32⟩
  | .hbm, ⟨29, _⟩ => ⟨S_, .f32⟩
  | .hbm, ⟨30, _⟩ => ⟨S32, .f32⟩
  | .hbm, ⟨31, _⟩ => ⟨S1x32x1, .f32⟩
  | .hbm, ⟨32, _⟩ => ⟨S_, .f32⟩
  | .hbm, ⟨33, _⟩ => ⟨S1x32x1, .f32⟩
  | .hbm, ⟨34, _⟩ => ⟨S1x32x1, .f32⟩
  | .hbm, ⟨35, _⟩ => ⟨S16x32x32768, .f32⟩
  | .hbm, ⟨36, _⟩ => ⟨S16x32x32768, .f32⟩
  | .hbm, ⟨37, _⟩ => ⟨S16x32x32768, .f32⟩
  | .hbm, ⟨38, _⟩ => ⟨S16x32x32768, .f32⟩
  | .hbm, ⟨39, _⟩ => ⟨S16x32x32768, .f32⟩
  | .hbm, ⟨40, _⟩ => ⟨S_, .f32⟩
  | .hbm, ⟨41, _⟩ => ⟨S32, .f32⟩
  | .hbm, ⟨42, _⟩ => ⟨S1x32x1, .f32⟩
  | .hbm, ⟨43, _⟩ => ⟨S_, .f32⟩
  | .hbm, ⟨44, _⟩ => ⟨S1x32x1, .f32⟩
  | .hbm, ⟨45, _⟩ => ⟨S1x32x1, .f32⟩
  | .hbm, ⟨46, _⟩ => ⟨S1x32x1, .f32⟩
  | .hbm, ⟨47, _⟩ => ⟨S16x32x32768, .f32⟩
  | .hbm, ⟨48, _⟩ => ⟨S16x32x32768, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16x32x32768, .f32⟩
  | .hbm, ⟨53, _⟩ => ⟨S16x32x32768, .f32⟩
  | .hbm, ⟨54, _⟩ => ⟨S_, .f32⟩
  | .hbm, ⟨55, _⟩ => ⟨S16x32x32768, .f32⟩
  | .hbm, ⟨56, _⟩ => ⟨S16x32x32768, .f32⟩
  | .hbm, ⟨57, _⟩ => ⟨S16x32x32768, .i32⟩
  | .hbm, ⟨58, _⟩ => ⟨S16x32x32768, .f32⟩
  | .hbm, ⟨59, _⟩ => ⟨S1x32x1, .f32⟩
  | .hbm, ⟨60, _⟩ => ⟨S16x32x32768, .f32⟩
  | .hbm, ⟨61, _⟩ => ⟨S16x32x32768, .f32⟩
  | .hbm, ⟨62, _⟩ => ⟨S1x32x1, .f32⟩
  | .hbm, ⟨63, _⟩ => ⟨S16x32x32768, .f32⟩
  | .hbm, ⟨64, _⟩ => ⟨S16x32x32768, .f32⟩
  | .hbm, ⟨65, _⟩ => ⟨S1x32x1, .f32⟩
  | .hbm, ⟨66, _⟩ => ⟨S16x32x32768, .f32⟩
  | .hbm, ⟨67, _⟩ => ⟨S16x32x32768, .f32⟩
  | .hbm, ⟨68, _⟩ => ⟨S_, .f32⟩
  | .hbm, ⟨69, _⟩ => ⟨S1x32x1, .f32⟩
  | .hbm, ⟨70, _⟩ => ⟨S1x32x1, .f32⟩
  | .hbm, ⟨71, _⟩ => ⟨S1x32x1, .f32⟩
  | .hbm, ⟨72, _⟩ => ⟨S16x32x32768, .f32⟩
  | .hbm, ⟨73, _⟩ => ⟨S16x32x32768, .f32⟩
  | .hbm, ⟨74, _⟩ => ⟨S16x32x32768, .f32⟩
  | .hbm, ⟨75, _⟩ => ⟨S16x32x32768, .f32⟩
  | .hbm, ⟨76, _⟩ => ⟨S1x32x1, .f32⟩
  | .hbm, ⟨77, _⟩ => ⟨S16x32x32768, .f32⟩
  | .hbm, ⟨78, _⟩ => ⟨S16x32x32768, .f32⟩
  | .hbm, ⟨79, _⟩ => ⟨S_, .f32⟩
  | .hbm, ⟨80, _⟩ => ⟨S16x32x32768, .f32⟩
  | .hbm, ⟨81, _⟩ => ⟨S16x32x32768, .f32⟩
  | .hbm, ⟨82, _⟩ => ⟨S32x16x32768, .f32⟩
  | .hbm, ⟨83, _⟩ => ⟨S16x32x32768, .f32⟩
  | .hbm, ⟨84, _⟩ => ⟨S1x32x1, .f32⟩
  | .hbm, ⟨85, _⟩ => ⟨S16x32x32768, .f32⟩
  | .hbm, ⟨86, _⟩ => ⟨S16x32x32768, .f32⟩
  | .hbm, ⟨87, _⟩ => ⟨S_, .f32⟩
  | .hbm, ⟨88, _⟩ => ⟨S32, .f32⟩
  | .hbm, ⟨89, _⟩ => ⟨S1x32x1, .f32⟩
  | .hbm, ⟨90, _⟩ => ⟨S_, .f32⟩
  | .hbm, ⟨91, _⟩ => ⟨S1x32x1, .f32⟩
  | .hbm, ⟨92, _⟩ => ⟨S1x32x1, .f32⟩
  | .hbm, ⟨93, _⟩ => ⟨S16x32x32768, .f32⟩
  | .hbm, ⟨94, _⟩ => ⟨S16x32x32768, .f32⟩
  | .hbm, ⟨95, _⟩ => ⟨S16x32x32768, .f32⟩
  | .hbm, ⟨96, _⟩ => ⟨S16x32x32768, .f32⟩
  | .hbm, ⟨97, _⟩ => ⟨S16x32x32768, .f32⟩
  | .hbm, ⟨98, _⟩ => ⟨S_, .f32⟩
  | .hbm, ⟨99, _⟩ => ⟨S32, .f32⟩
  | .hbm, ⟨100, _⟩ => ⟨S1x32x1, .f32⟩
  | .hbm, ⟨101, _⟩ => ⟨S_, .f32⟩
  | .hbm, ⟨102, _⟩ => ⟨S1x32x1, .f32⟩
  | .hbm, ⟨103, _⟩ => ⟨S1x32x1, .f32⟩
  | .hbm, ⟨104, _⟩ => ⟨S1x32x1, .f32⟩
  | .hbm, ⟨105, _⟩ => ⟨S16x32x32768, .f32⟩
  | .hbm, ⟨106, _⟩ => ⟨S16x32x32768, .f32⟩
  | .hbm, ⟨107, _⟩ => ⟨S_, .f32⟩
  | .hbm, ⟨108, _⟩ => ⟨S1x32x1, .f32⟩
  | .hbm, ⟨109, _⟩ => ⟨S1x32x1, .f32⟩
  | .hbm, ⟨110, _⟩ => ⟨S1x32x1, .f32⟩
  | .hbm, ⟨111, _⟩ => ⟨S16x32x32768, .f32⟩
  | .hbm, ⟨112, _⟩ => ⟨S16x32x32768, .f32⟩
  | .hbm, ⟨113, _⟩ => ⟨S16x32x32768, .f32⟩
  | .hbm, ⟨114, _⟩ => ⟨S16x32x32768, .f32⟩
  | .hbm, ⟨115, _⟩ => ⟨S1x32x1, .f32⟩
  | .hbm, ⟨116, _⟩ => ⟨S16x32x32768, .f32⟩
  | .hbm, ⟨117, _⟩ => ⟨S16x32x32768, .f32⟩
  | .hbm, ⟨118, _⟩ => ⟨S_, .f32⟩
  | .hbm, ⟨119, _⟩ => ⟨S16x32x32768, .f32⟩
  | .hbm, ⟨120, _⟩ => ⟨S16x32x32768, .f32⟩
  | .hbm, ⟨121, _⟩ => ⟨S_, .f32⟩
  | .hbm, ⟨122, _⟩ => ⟨S16x3x1, .f32⟩
  | .hbm, ⟨123, _⟩ => ⟨S_, .f32⟩
  | .hbm, ⟨124, _⟩ => ⟨S16x32, .f32⟩
  | .hbm, ⟨125, _⟩ => ⟨S16x32x1, .f32⟩
  | _, _ => ⟨S16x3x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_cst_8 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]
-- ==== Proof.KI.Body.lean ====
/-
  What one call of the kernel's body does: the values that it stores, as plain functions of what it loads, the second
  phase's loop, and the proof that the body computes them.
-/
module

public import proofs.«01_k».proof.Proof.Gen.KernelIdeal.Skeleton
public import proofs.«01_k».proof.Proof.Gen.KernelIdeal.Frame
public import Idealize.ShloMosaic.Lib.VecWindow
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref of core `c` held whole at the contents `X`. -/
abbrev held (c : Dev nD) {s : Shape} {e : EltTy} (a : Memref sig .tc .vmem s e) (X : Vec F s e) : sProp 𝕄 :=
  iprop(a.view.loc (c : Thread nD τ) ↦[a.view.set]{fullShare} a.view.rep X)

/-! ## What one step of the grid leaves in the carried buffers -/

/-- The word that is one exactly at the first step of the grid, where the kernel zeroes its sums. -/
def first (i : grid0.Coords) : BitVec 1 :=
  Scalar.cmpi .ne (Scalar.extui (Scalar.cmpi .eq (BitVec.ofNat 32 (i 0).val) 0#32) : BitVec 32) 0#32

section Values
variable (i : grid0.Coords)
  (X1 X2 X3 X4 : Vec F S1x3x8192 .f32) (X5 X6 X7 X8 : Vec F S1x16x8192 .f32) (X9 : Vec F S32x3 .f32) (X10 : Vec F S32x16 .f32)
  (X11 X12 X13 X14 : Vec F S32x1 .f32) (X15 : Vec F S32x32 .f32) (X17 X18 : Vec F S32x1 .f32)
  (C : Vec F S32x32x16384 .i16) (S Q : Vec F S32x128 .f32)

/-- The lane sums of the first layer after a step: the sums before it (zero at the first step) with the four quarters of
    the step's block added, each folded into 128 lanes. -/
def stepS : Vec F S32x128 .f32 :=
  k0_pay47 (k0_pay33 X9 X4 X10 X8) (k0_pay47 (k0_pay33 X9 X3 X10 X7) (k0_pay47 (k0_pay33 X9 X2 X10 X6) (k0_pay47 (k0_pay33 X9 X1 X10 X5)
    (if first i = 1#1 then k0_pay31 else S))))

/-- The lane sums of the squares after a step. -/
def stepQ : Vec F S32x128 .f32 :=
  k0_pay48 (k0_pay33 X9 X4 X10 X8) (k0_pay48 (k0_pay33 X9 X3 X10 X7) (k0_pay48 (k0_pay33 X9 X2 X10 X6) (k0_pay48 (k0_pay33 X9 X1 X10 X5)
    (if first i = 1#1 then k0_pay32 else Q))))

/-- The stored codes after a step: four windows, one per quarter of the step's block, written over what was there. -/
def stepC : Vec F S32x32x16384 .i16 :=
  VecWindow.put (VecWindow.put (VecWindow.put (VecWindow.put C
    (k0_off1 i 0#32) S1x32x8192.size (k0_pay36 (k0_pay33 X9 X1 X10 X5) X11))
    (k0_off2 i 0#32) S1x32x8192.size (k0_pay36 (k0_pay33 X9 X2 X10 X6) X11))
    (k0_off1 i 1#32) S1x32x8192.size (k0_pay36 (k0_pay33 X9 X3 X10 X7) X11))
    (k0_off2 i 1#32) S1x32x8192.size (k0_pay36 (k0_pay33 X9 X4 X10 X8) X11)

/-- The second phase's four accumulators: the lane sums of the second layer and of its squares, and the running
    maximum and minimum with one lane per batch element. -/
structure Pool (F : FTy → Type) where
  /-- lane sums -/
  s : Vec F S32x128 .f32
  /-- lane sums of squares -/
  q : Vec F S32x128 .f32
  /-- maxima -/
  mx : Vec F S32x16 .f32
  /-- minima -/
  mn : Vec F S32x16 .f32

theorem inb3 : ∀ (k : Fin k0_t1_loop.trips) (a : Fin 3), k0_off3 k a + S1x32x16384.size a ≤ S32x32x16384.size a := by decide +kernel
theorem inb4 : ∀ (k : Fin k0_t1_loop.trips) (a : Fin 3), k0_off4 k a + S1x32x16384.size a ≤ S32x32x16384.size a := by decide +kernel

/-- The two rows of codes that a trip loads. -/
def rowA (k : Fin k0_t1_loop.trips) : Vec F S1x32x16384 .i16 := VecWindow.window C (k0_off3 k) S1x32x16384.size (inb3 k)
def rowB (k : Fin k0_t1_loop.trips) : Vec F S1x32x16384 .i16 := VecWindow.window C (k0_off4 k) S1x32x16384.size (inb4 k)

/-- The lane numbers. -/
def lanes : IVec S32x16 32 := iota .tc S32x16 32 [1] iota_S32x16_d1_w32

/-- One trip's two halves of the second layer. -/
def halfA (c0 aq : Vec F S32x1 .f32) (k : Fin k0_t1_loop.trips) : Vec F S32x16384 .f32 := k0_pay3 c0 aq (rowA C k) X15
def halfB (c0 aq : Vec F S32x1 .f32) (k : Fin k0_t1_loop.trips) : Vec F S32x16384 .f32 := k0_pay4 c0 aq (rowB C k) X15

/-- The accumulators after one trip. -/
def trip (c0 aq : Vec F S32x1 .f32) (k : Fin k0_t1_loop.trips) (p : Pool F) : Pool F where
  s := k0_pay8 (halfB X15 C c0 aq k) p.s (k0_pay6 c0 aq (rowA C k) X15) (k0_pay7 c0 aq (rowA C k) X15)
  q := k0_pay12 (halfB X15 C c0 aq k) p.q (k0_pay10 (halfA X15 C c0 aq k)) (k0_pay11 (halfA X15 C c0 aq k))
  mx := k0_pay25 (k0_pay15 lanes (Scf.iv 0#32 1#32 k) (halfA X15 C c0 aq k) (halfB X15 C c0 aq k) p.mx p.mx)
  mn := k0_pay26 (k0_pay13 (halfA X15 C c0 aq k) (halfB X15 C c0 aq k)) (k0_pay14 lanes (Scf.iv 0#32 1#32 k)) p.mn p.mn

/-- The accumulators after `n` trips. -/
def pool (c0 aq : Vec F S32x1 .f32) : ℕ → Pool F
  | 0 => ⟨k0_pay20, k0_pay21, k0_pay23 k0_pay22, k0_pay24⟩
  | n + 1 => if h : n < k0_t1_loop.trips then trip X15 C c0 aq ⟨n, h⟩ (pool c0 aq n) else pool c0 aq n

theorem pool_succ (c0 aq : Vec F S32x1 .f32) (k : Fin k0_t1_loop.trips) :
    pool X15 C c0 aq (k.val + 1) = trip X15 C c0 aq k (pool X15 C c0 aq k.val) := by
  rw [pool, dif_pos k.isLt]

/-- The accumulators the second phase ends with, from the first layer's sums and codes. -/
def poolEnd : Pool F := pool X15 C (k0_pay18 S Q X13 X14) (k0_pay19 S Q X13 X12) k0_t1_loop.trips

/-- The block the kernel stores at its last step. -/
def outBlock : Vec F S32x16 .f32 :=
  k0_pay2 (k0_pay28 (poolEnd X12 X13 X14 X15 C S Q).s (poolEnd X12 X13 X14 X15 C S Q).q X17)
    (k0_pay29 (poolEnd X12 X13 X14 X15 C S Q).s (poolEnd X12 X13 X14 X15 C S Q).q X17 X18)
    (k0_pay30 (poolEnd X12 X13 X14 X15 C S Q).s (poolEnd X12 X13 X14 X15 C S Q).q X17)
    (poolEnd X12 X13 X14 X15 C S Q).mx (poolEnd X12 X13 X14 X15 C S Q).mn
end Values

/-! ### Whole loads -/

theorem rd32 (a : Memref sig .tc .vmem S32x32 .f32) (x : Vec F S32x32 .f32) (inb : ∀ b : Fin S32x32.rank, ![0, 0] b + ![32, 32] b ≤ S32x32.size b) :
    a.view.readAt (Elt F) (Rect.unit (s := S32x32) ![0, 0] ![32, 32] inb).toLoadRect (a.view.rep x) = x := View.readAt_rep_full a.view x inb
theorem rd128 (a : Memref sig .tc .vmem S32x128 .f32) (x : Vec F S32x128 .f32) (inb : ∀ b : Fin S32x128.rank, ![0, 0] b + ![32, 128] b ≤ S32x128.size b) :
    a.view.readAt (Elt F) (Rect.unit (s := S32x128) ![0, 0] ![32, 128] inb).toLoadRect (a.view.rep x) = x := View.readAt_rep_full a.view x inb
theorem rd16 (a : Memref sig .tc .vmem S32x16 .f32) (x : Vec F S32x16 .f32) (inb : ∀ b : Fin S32x16.rank, ![0, 0] b + ![32, 16] b ≤ S32x16.size b) :
    a.view.readAt (Elt F) (Rect.unit (s := S32x16) ![0, 0] ![32, 16] inb).toLoadRect (a.view.rep x) = x := View.readAt_rep_full a.view x inb
theorem rd1 (a : Memref sig .tc .vmem S32x1 .f32) (x : Vec F S32x1 .f32) (inb : ∀ b : Fin S32x1.rank, ![0, 0] b + ![32, 1] b ≤ S32x1.size b) :
    a.view.readAt (Elt F) (Rect.unit (s := S32x1) ![0, 0] ![32, 1] inb).toLoadRect (a.view.rep x) = x := View.readAt_rep_full a.view x inb

theorem rdX (a : Memref sig .tc .vmem S1x3x8192 .f32) (x : Vec F S1x3x8192 .f32) (inb : ∀ b : Fin S1x3x8192.rank, ![0, 0, 0] b + ![1, 3, 8192] b ≤ S1x3x8192.size b) :
    a.view.readAt (Elt F) (Rect.unit (s := S1x3x8192) ![0, 0, 0] ![1, 3, 8192] inb).toLoadRect (a.view.rep x) = x := View.readAt_rep_full a.view x inb
theorem rdP (a : Memref sig .tc .vmem S1x16x8192 .f32) (x : Vec F S1x16x8192 .f32) (inb : ∀ b : Fin S1x16x8192.rank, ![0, 0, 0] b + ![1, 16, 8192] b ≤ S1x16x8192.size b) :
    a.view.readAt (Elt F) (Rect.unit (s := S1x16x8192) ![0, 0, 0] ![1, 16, 8192] inb).toLoadRect (a.view.rep x) = x := View.readAt_rep_full a.view x inb
theorem rd3 (a : Memref sig .tc .vmem S32x3 .f32) (x : Vec F S32x3 .f32) (inb : ∀ b : Fin S32x3.rank, ![0, 0] b + ![32, 3] b ≤ S32x3.size b) :
    a.view.readAt (Elt F) (Rect.unit (s := S32x3) ![0, 0] ![32, 3] inb).toLoadRect (a.view.rep x) = x := View.readAt_rep_full a.view x inb
/-- A load of a whole buffer of lane sums reads what was stored over it last. -/
theorem cov128 (a : Memref sig .tc .vmem S32x128 .f32) (w : Vec F S32x128 .f32) (L : List (View.Piece (Elt F) S32x128 .f32))
    (inb inb' : ∀ b : Fin S32x128.rank, ![0, 0] b + ![32, 128] b ≤ S32x128.size b) :
    a.view.readCov (Val := Elt F) (⟨Rect.unit (s := S32x128) ![0, 0] ![32, 128] inb', w⟩ :: L) (Rect.unit (s := S32x128) ![0, 0] ![32, 128] inb).toLoadRect = w :=
  View.readCov_full a.view inb inb' w L
/-- The same, where the load is stated over the contents. -/
theorem wr128 (a : Memref sig .tc .vmem S32x128 .f32) (f : a.view.ty.Contents (Elt F))
    (inb : ∀ b : Fin S32x128.rank, ![0, 0] b + ![32, 128] b ≤ S32x128.size b) :
    a.view.readAt (Elt F) (Rect.unit (s := S32x128) ![0, 0] ![32, 128] inb).toLoadRect f = a.view.read (Elt F) f :=
  View.readAt_full a.view f inb

section Step
variable (c : Dev nD) (i : grid0.Coords)
  (arg1 : Memref sig .tc .vmem S1x3x8192 .f32) (harg1 : arg1.IsWhole)
  (arg2 : Memref sig .tc .vmem S1x3x8192 .f32) (harg2 : arg2.IsWhole)
  (arg3 : Memref sig .tc .vmem S1x3x8192 .f32) (harg3 : arg3.IsWhole)
  (arg4 : Memref sig .tc .vmem S1x3x8192 .f32) (harg4 : arg4.IsWhole)
  (arg5 : Memref sig .tc .vmem S1x16x8192 .f32) (harg5 : arg5.IsWhole)
  (arg6 : Memref sig .tc .vmem S1x16x8192 .f32) (harg6 : arg6.IsWhole)
  (arg7 : Memref sig .tc .vmem S1x16x8192 .f32) (harg7 : arg7.IsWhole)
  (arg8 : Memref sig .tc .vmem S1x16x8192 .f32) (harg8 : arg8.IsWhole)
  (arg9 : Memref sig .tc .vmem S32x3 .f32) (harg9 : arg9.IsWhole)
  (arg10 : Memref sig .tc .vmem S32x16 .f32) (harg10 : arg10.IsWhole)
  (arg11 : Memref sig .tc .vmem S32x1 .f32) (harg11 : arg11.IsWhole)
  (arg12 : Memref sig .tc .vmem S32x1 .f32) (harg12 : arg12.IsWhole)
  (arg13 : Memref sig .tc .vmem S32x1 .f32) (harg13 : arg13.IsWhole)
  (arg14 : Memref sig .tc .vmem S32x1 .f32) (harg14 : arg14.IsWhole)
  (arg15 : Memref sig .tc .vmem S32x32 .f32) (harg15 : arg15.IsWhole)
  (arg16 : Memref sig .tc .vmem S32x1 .f32) (harg16 : arg16.IsWhole)
  (arg17 : Memref sig .tc .vmem S32x1 .f32) (harg17 : arg17.IsWhole)
  (arg18 : Memref sig .tc .vmem S32x1 .f32) (harg18 : arg18.IsWhole)
  (arg19 : Memref sig .tc .vmem S32x16 .f32) (harg19 : arg19.IsWhole)
  (arg20 : Memref sig .tc .vmem S32x32x16384 .i16) (harg20 : arg20.IsWhole)
  (arg21 : Memref sig .tc .vmem S32x128 .f32) (harg21 : arg21.IsWhole)
  (arg22 : Memref sig .tc .vmem S32x128 .f32) (harg22 : arg22.IsWhole)
  (arg23 : Memref sig .tc .vmem S32x128 .f32) (harg23 : arg23.IsWhole)
  (arg24 : Memref sig .tc .vmem S32x128 .f32) (harg24 : arg24.IsWhole)
  (arg25 : Memref sig .tc .vmem S32x16 .f32) (harg25 : arg25.IsWhole)
  (arg26 : Memref sig .tc .vmem S32x16 .f32) (harg26 : arg26.IsWhole)
  (X1 X2 X3 X4 : Vec F S1x3x8192 .f32) (X5 X6 X7 X8 : Vec F S1x16x8192 .f32) (X9 : Vec F S32x3 .f32) (X10 : Vec F S32x16 .f32)
  (X11 X12 X13 X14 : Vec F S32x1 .f32) (X15 : Vec F S32x32 .f32) (X17 X18 : Vec F S32x1 .f32)
  (C : Vec F S32x32x16384 .i16) (S Q : Vec F S32x128 .f32)

/-- The kernel's body on its memrefs. -/
abbrev theBody := cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26

/-- The blocks a step reads, held. -/
abbrev inputs : sProp 𝕄 :=
  iprop(held c arg1 X1 ∗ held c arg2 X2 ∗ held c arg3 X3 ∗ held c arg4 X4 ∗ held c arg5 X5 ∗ held c arg6 X6 ∗ held c arg7 X7 ∗ held c arg8 X8
      ∗ held c arg9 X9 ∗ held c arg10 X10 ∗ held c arg11 X11)

/-- The second phase: what the body runs after its first phase, at the last step only. -/
def phaseB : Prog (TpuEff nD τ sig (Elt F) Λ₀ .tc) PUnit := do
  if k0_h2 : k0_cond2 i = 1#1 then do
    let ⟨v319, v322, v331⟩ : Σ' (v319 : FVec F S32x1 .f32) (v322 : FVec F S32x1 .f32), FVec F S32x16 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
    let ⟨v358, v362, v364, v365⟩ : Σ' (v358 : FVec F S32x1 .f32) (v362 : FVec F S32x1 .f32) (v364 : IVec S32x1 1), Vec F S32x16 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h2 v319 v322 v331
    let v366 : Vec F S32x16 .f32 ← Prog.lift (.load arg26 (Rect.unit (s := S32x16) ![0, 0] S32x16.size inb_S32x16_S32x16_0_0).toLoadRect (View.loadsAt_vmem h_S32x16))
    let v376 : Vec F S32x16 .f32 ← Prog.lift (.load arg19 (Rect.unit (s := S32x16) ![0, 0] S32x16.size inb_S32x16_S32x16_0_0).toLoadRect (View.loadsAt_vmem h_S32x16))
    Prog.lift (.store arg19 (Rect.unit (s := S32x16) ![0, 0] S32x16.size inb_S32x16_S32x16_0_0) (k0_pay2 v358 v362 v364 v365 v366) Finset.univ (View.stores_vmem_bits_univ h_S32x16 rfl) (.inl rfl))
    pure ⟨⟩
  else do
    pure ⟨⟩

set_option maxHeartbeats 4000000 in
/-- The first phase of a step: it adds the step's block to the sums, stores its codes, and goes on with the second phase. -/
theorem step_sound (R : PUnit → sProp 𝕄) :
    iprop((inputs c arg1 arg2 arg3 arg4 arg5 arg6 arg7 arg8 arg9 arg10 arg11 X1 X2 X3 X4 X5 X6 X7 X8 X9 X10 X11 ∗ held c arg20 C ∗ held c arg21 S ∗ held c arg22 Q)
      ∗ ((inputs c arg1 arg2 arg3 arg4 arg5 arg6 arg7 arg8 arg9 arg10 arg11 X1 X2 X3 X4 X5 X6 X7 X8 X9 X10 X11
          ∗ held c arg20 (stepC i X1 X2 X3 X4 X5 X6 X7 X8 X9 X10 X11 C) ∗ held c arg21 (stepS i X1 X2 X3 X4 X5 X6 X7 X8 X9 X10 S) ∗ held c arg22 (stepQ i X1 X2 X3 X4 X5 X6 X7 X8 X9 X10 Q))
          -∗ wp frame (wpE (defs₀ (F := F)) Variants.none c none) Set.univ (phaseB (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) R))
    ⊢ wp frame (wpE (defs₀ (F := F)) Variants.none c none) Set.univ (theBody (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) R := by
  simp only [theBody, Gen.cc0__body_eq_skeleton]
  unfold cc0__body_skel
  simp only [Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton]
  iintro ⟨⟨⟨H1, H2, H3, H4, H5, H6, H7, H8, H9, H10, H11⟩, HC, HS, HQ⟩, Hk⟩
  sl_exec
  ihave HS' := (pointsTo_rep_of_read _ arg21 _ _ (stepS i X1 X2 X3 X4 X5 X6 X7 X8 X9 X10 S) ?hS) $$ HS
  case hS =>
    rw [View.read_writes_full]
    delta step_sound.sl.v87 step_sound.sl.v160 step_sound.sl.v233 step_sound.sl.v14 step_sound.sl.HS_1 step_sound.sl.HS_2 step_sound.sl.HS_3 step_sound.sl.r step_sound.sl.r_1 step_sound.sl.r_2 step_sound.sl.r_3 step_sound.sl.r_6 step_sound.sl.r_9
    simp only [cov128, rdX, rdP, rd3, rd32, rd128, rd16, rd1, wr128]
    unfold stepS
    by_cases h : first i = 1#1
    · rw [dif_pos (show step_sound.sl.v2 i = 1#1 from h), if_pos h, View.read_writes_full]; rfl
    · rw [dif_neg (show ¬ step_sound.sl.v2 i = 1#1 from h), if_neg h, View.read_rep]; rfl
  ihave HQ' := (pointsTo_rep_of_read _ arg22 _ _ (stepQ i X1 X2 X3 X4 X5 X6 X7 X8 X9 X10 Q) ?hQ) $$ HQ
  case hQ =>
    rw [View.read_writes_full]
    delta step_sound.sl.v37 step_sound.sl.v110 step_sound.sl.v183 step_sound.sl.v256 step_sound.sl.HQ_1 step_sound.sl.HQ_2 step_sound.sl.HQ_3 step_sound.sl.r step_sound.sl.r_1 step_sound.sl.r_2 step_sound.sl.r_3 step_sound.sl.r_4 step_sound.sl.r_5 step_sound.sl.r_6 step_sound.sl.r_8
    simp only [cov128, rdX, rdP, rd3, rd32, rd128, rd16, rd1, wr128]
    unfold stepQ
    by_cases h : first i = 1#1
    · rw [dif_pos (show step_sound.sl.v2 i = 1#1 from h), if_pos h, View.read_writes_full]; rfl
    · rw [dif_neg (show ¬ step_sound.sl.v2 i = 1#1 from h), if_neg h, View.read_rep]; rfl
  ihave HC' := (pointsTo_rep_of_read _ arg20 _ _ (stepC i X1 X2 X3 X4 X5 X6 X7 X8 X9 X10 X11 C) ?hC) $$ HC
  case hC =>
    delta step_sound.sl.r step_sound.sl.r_1 step_sound.sl.r_2 step_sound.sl.r_3 step_sound.sl.r_6 step_sound.sl.r_7 step_sound.sl.r_8 step_sound.sl.r_10
    simp only [rdX, rdP, rd3, rd32, rd128, rd16, rd1]
    rw [View.read_writes_cons_put _ _ _ _ _ rfl, View.read_writes_cons_put _ _ _ _ _ rfl, View.read_writes_cons_put _ _ _ _ _ rfl, View.read_writes_rep_unit _ _ _ _ rfl]
    rfl
  iapply Hk
  isplitr [HC' HS' HQ']
  · sl_close
  isplitl [HC']; · iexact HC'
  isplitl [HS']; · iexact HS'
  iexact HQ'

set_option maxHeartbeats 4000000 in
/-- One trip of the second phase's loop. -/
theorem trip_sound (h2 : k0_cond2 i = 1#1) (c0 aq : Vec F S32x1 .f32) (neg : Vec F S32x16 .f32) (k : Fin k0_t1_loop.trips) (p : Pool F) :
    iprop(held c arg15 X15 ∗ held c arg20 C ∗ held c arg23 p.s ∗ held c arg24 p.q ∗ held c arg25 p.mx ∗ held c arg26 p.mn)
    ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h2 c0 aq neg lanes k PUnit.unit)
      (fun _ => iprop(held c arg15 X15 ∗ held c arg20 C ∗ held c arg23 (trip X15 C c0 aq k p).s ∗ held c arg24 (trip X15 C c0 aq k p).q
        ∗ held c arg25 (trip X15 C c0 aq k p).mx ∗ held c arg26 (trip X15 C c0 aq k p).mn)) := by
  have hk : k.val < 16 := Nat.lt_of_lt_of_le k.isLt k0_t1_abs.2.1
  have ea : arg20.view.readAt (Elt F) (Rect.unit (s := S32x32x16384) (k0_off3 k) S1x32x16384.size (k0_off3_inb i k h2)).toLoadRect (arg20.view.rep C)
      = rowA C k := View.readAt_rep_unit _ _ _ rfl _
  have eb : arg20.view.readAt (Elt F) (Rect.unit (s := S32x32x16384) (k0_off4 k) S1x32x16384.size (k0_off4_inb i k h2)).toLoadRect (arg20.view.rep C)
      = rowB C k := View.readAt_rep_unit _ _ _ rfl _
  unfold k0_t1_body
  simp only [Gen.k0_part1_eq_skeleton, Gen.k0_part2_eq_skeleton, Gen.k0_part3_eq_skeleton]
  iintro ⟨H15, HC, Hs, Hq, Hx, Hn⟩
  sl_exec
  ihave Hs' := (pointsTo_rep_of_read _ arg23 _ _ (trip X15 C c0 aq k p).s ?hs) $$ Hs
  case hs =>
    rw [View.read_writes_full]
    delta trip_sound.sl.r trip_sound.sl.r_1 trip_sound.sl.r_2 trip_sound.sl.r_3 trip_sound.sl.r_4 trip_sound.sl.r_5 trip_sound.sl.r_6 trip_sound.sl.r_7 trip_sound.sl.r_8 trip_sound.sl.r_9 trip_sound.sl.r_10 trip_sound.sl.arg27
    simp only [View.readAt_rep_full, ea, eb, rd32, rd128, rd16]
    rfl
  ihave Hq' := (pointsTo_rep_of_read _ arg24 _ _ (trip X15 C c0 aq k p).q ?hq) $$ Hq
  case hq =>
    rw [View.read_writes_full]
    delta trip_sound.sl.r trip_sound.sl.r_1 trip_sound.sl.r_2 trip_sound.sl.r_3 trip_sound.sl.r_4 trip_sound.sl.r_5 trip_sound.sl.r_6 trip_sound.sl.r_7 trip_sound.sl.r_8 trip_sound.sl.r_9 trip_sound.sl.r_10 trip_sound.sl.arg27
    simp only [View.readAt_rep_full, ea, eb, rd32, rd128, rd16]
    rfl
  ihave Hx' := (pointsTo_rep_of_read _ arg25 _ _ (trip X15 C c0 aq k p).mx ?hx) $$ Hx
  case hx =>
    refine (View.read_writes_full _ _ _ _ _).trans ?_
    delta trip_sound.sl.r trip_sound.sl.r_1 trip_sound.sl.r_2 trip_sound.sl.r_3 trip_sound.sl.r_4 trip_sound.sl.r_5 trip_sound.sl.r_6 trip_sound.sl.r_7 trip_sound.sl.r_8 trip_sound.sl.r_9 trip_sound.sl.r_10 trip_sound.sl.arg27
    simp only [View.readAt_rep_full, ea, eb, rd32, rd128, rd16]
    rfl
  ihave Hn' := (pointsTo_rep_of_read _ arg26 _ _ (trip X15 C c0 aq k p).mn ?hn) $$ Hn
  case hn =>
    refine (View.read_writes_full _ _ _ _ _).trans ?_
    delta trip_sound.sl.r trip_sound.sl.r_1 trip_sound.sl.r_2 trip_sound.sl.r_3 trip_sound.sl.r_4 trip_sound.sl.r_5 trip_sound.sl.r_6 trip_sound.sl.r_7 trip_sound.sl.r_8 trip_sound.sl.r_9 trip_sound.sl.r_10 trip_sound.sl.arg27
    simp only [View.readAt_rep_full, ea, eb, rd32, rd128, rd16]
    rfl
  sl_step
  sl_close

/-- What the second phase reads and writes. -/
abbrev second (O : Vec F S32x16 .f32) (p : Pool F) : sProp 𝕄 :=
  iprop(held c arg12 X12 ∗ held c arg13 X13 ∗ held c arg14 X14 ∗ held c arg15 X15 ∗ held c arg17 X17 ∗ held c arg18 X18 ∗ held c arg19 O
    ∗ held c arg20 C ∗ held c arg21 S ∗ held c arg22 Q ∗ held c arg23 p.s ∗ held c arg24 p.q ∗ held c arg25 p.mx ∗ held c arg26 p.mn)

set_option maxHeartbeats 4000000 in
/-- The second phase, at the last step: it leaves the output block. -/
theorem phaseB_sound (h2 : k0_cond2 i = 1#1) (O : Vec F S32x16 .f32) (p : Pool F) (R : PUnit → sProp 𝕄) :
    iprop(second c arg12 arg13 arg14 arg15 arg17 arg18 arg19 arg20 arg21 arg22 arg23 arg24 arg25 arg26 X12 X13 X14 X15 X17 X18 C S Q O p
      ∗ (second c arg12 arg13 arg14 arg15 arg17 arg18 arg19 arg20 arg21 arg22 arg23 arg24 arg25 arg26 X12 X13 X14 X15 X17 X18 C S Q
          (outBlock X12 X13 X14 X15 X17 X18 C S Q) (poolEnd X12 X13 X14 X15 C S Q) -∗ R ⟨⟩))
    ⊢ wp frame (wpE (defs₀ (F := F)) Variants.none c none) Set.univ (phaseB (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) R := by
  unfold phaseB
  simp only [dif_pos h2, Gen.k0_part4_eq_skeleton, Gen.k0_part5_eq_skeleton]
  iintro ⟨⟨H12, H13, H14, H15, H17, H18, H19, HC, HS, HQ, Hs, Hq, Hx, Hn⟩, Hk⟩
  sl_exec
  ihave Hs' := (pointsTo_rep_of_read _ arg23 _ _ (k0_pay20 (F := F)) ?hs) $$ Hs
  case hs => delta phaseB_sound.sl.Hs_1; exact View.read_writes_full _ _ _ _ _
  ihave Hq' := (pointsTo_rep_of_read _ arg24 _ _ (k0_pay21 (F := F)) ?hq) $$ Hq
  case hq => delta phaseB_sound.sl.Hq_1; exact View.read_writes_full _ _ _ _ _
  ihave Hx' := (pointsTo_rep_of_read _ arg25 _ _ (k0_pay23 (F := F) k0_pay22) ?hx) $$ Hx
  case hx => delta phaseB_sound.sl.Hx_1; exact View.read_writes_full _ _ _ _ _
  ihave Hn' := (pointsTo_rep_of_read _ arg26 _ _ (k0_pay24 (F := F)) ?hn) $$ Hn
  case hn => delta phaseB_sound.sl.Hn_1; exact View.read_writes_full _ _ _ _ _
  delta phaseB_sound.sl.r phaseB_sound.sl.r_1 phaseB_sound.sl.v339
  simp only [rdX, rdP, rd3, rd32, rd128, rd16, rd1]
  sl_for (fun n _ => iprop(held c arg15 X15 ∗ held c arg20 C ∗ held c arg23 (pool X15 C (k0_pay18 S Q X13 X14) (k0_pay19 S Q X13 X12) n).s
      ∗ held c arg24 (pool X15 C (k0_pay18 S Q X13 X14) (k0_pay19 S Q X13 X12) n).q
      ∗ held c arg25 (pool X15 C (k0_pay18 S Q X13 X14) (k0_pay19 S Q X13 X12) n).mx
      ∗ held c arg26 (pool X15 C (k0_pay18 S Q X13 X14) (k0_pay19 S Q X13 X12) n).mn)) $$ [H15 HC Hs' Hq' Hx' Hn']
  · intro k
    iintro %acc H
    rw [pool_succ]
    iapply (trip_sound c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X15 C h2 (k0_pay18 S Q X13 X14) (k0_pay19 S Q X13 X12) (k0_pay22 (F := F)) k _) $$ H
  · simp only [pool]; sl_close
  iintro %acc ⟨H15, HC, Hs', Hq', Hx', Hn'⟩
  sl_exec
  ihave HO := (pointsTo_rep_of_read _ arg19 _ _ (outBlock X12 X13 X14 X15 X17 X18 C S Q) ?ho) $$ H19
  case ho =>
    refine (View.read_writes_full _ _ _ _ _).trans ?_
    delta phaseB_sound.sl.r_2 phaseB_sound.sl.r_3 phaseB_sound.sl.r_4 phaseB_sound.sl.v365 phaseB_sound.sl.v366 phaseB_sound.sl.v341 phaseB_sound.sl.v346
    simp only [rdX, rdP, rd3, rd32, rd128, rd16, rd1]
    rfl
  sl_step
  iapply Hk
  isplitl [H12]; · iexact H12
  isplitl [H13]; · iexact H13
  isplitl [H14]; · iexact H14
  isplitl [H15]; · iexact H15
  isplitl [H17]; · iexact H17
  isplitl [H18]; · iexact H18
  isplitl [HO]; · iexact HO
  isplitl [HC]; · iexact HC
  isplitl [HS]; · iexact HS
  isplitl [HQ]; · iexact HQ
  isplitl [Hs']; · iexact Hs'
  isplitl [Hq']; · iexact Hq'
  isplitl [Hx']; · iexact Hx'
  iexact Hn'

end Step
end Cert.KernelIdeal.Run
end
-- ==== Proof.KI.Carry.lean ====
/-
  What the carried buffers hold between the grid's steps, and the proof data of the pipeline: codes and sums of the batch
  elements done so far, and the block that the last step stores.
-/
module

public import proofs.«01_k».proof.Proof.KI.Body
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (c : Dev nD)

/-! ## What the carried buffers hold between the grid's steps -/

/-- The first layer, before its bias, on quarter `k` of step `t`'s block. -/
def quarter (t : Fin cfg0.N) : Fin 4 → Vec F S32x8192 .f32
  | 0 => k0_pay33 (iblk m c 8 t) (iblk m c 0 t) (iblk m c 9 t) (iblk m c 4 t)
  | 1 => k0_pay33 (iblk m c 8 t) (iblk m c 1 t) (iblk m c 9 t) (iblk m c 5 t)
  | 2 => k0_pay33 (iblk m c 8 t) (iblk m c 2 t) (iblk m c 9 t) (iblk m c 6 t)
  | 3 => k0_pay33 (iblk m c 8 t) (iblk m c 3 t) (iblk m c 9 t) (iblk m c 7 t)

/-- The codes of quarter `k` of step `t`'s block. -/
def quarterCodes (t : Fin cfg0.N) (k : Fin 4) : Vec F S1x32x8192 .i16 := k0_pay36 (quarter m c t k) (iblk m c 10 t)

/-- All codes, as the second phase finds them: step `t`'s four quarters lie in rows `2t` (the first two) and `2t + 1`. -/
def codes : Vec F S32x32x16384 .i16 := fun y =>
  quarterCodes m c ⟨(y 0).val / 2, by have h : (y 0).val < 32 := (y 0).isLt; have e : cfg0.N = 16 := N_0; omega⟩
    ⟨2 * ((y 0).val % 2) + (y 2).val / 8192, by have h : (y 2).val < 16384 := (y 2).isLt; omega⟩
    (ix3 0 (y 1) ⟨(y 2).val % 8192, Nat.mod_lt _ (by decide)⟩)

/-- The lane sums before step `n` (after `n` steps), and those of the squares. -/
def sums : ℕ → Vec F S32x128 .f32
  | 0 => k0_pay31
  | n + 1 => if h : n < cfg0.N then
      k0_pay47 (quarter m c ⟨n, h⟩ 3) (k0_pay47 (quarter m c ⟨n, h⟩ 2) (k0_pay47 (quarter m c ⟨n, h⟩ 1) (k0_pay47 (quarter m c ⟨n, h⟩ 0) (sums n))))
      else sums n
def squares : ℕ → Vec F S32x128 .f32
  | 0 => k0_pay32
  | n + 1 => if h : n < cfg0.N then
      k0_pay48 (quarter m c ⟨n, h⟩ 3) (k0_pay48 (quarter m c ⟨n, h⟩ 2) (k0_pay48 (quarter m c ⟨n, h⟩ 1) (k0_pay48 (quarter m c ⟨n, h⟩ 0) (squares n))))
      else squares n

/-- What is known of the carried codes and sums before step `n`. -/
def Known (n : ℕ) (C : Vec F S32x32x16384 .i16) (S Q : Vec F S32x128 .f32) : Prop :=
  (∀ y, (y 0).val < 2 * n → C y = codes m c y) ∧ (0 < n → S = sums m c n) ∧ (0 < n → Q = squares m c n)

theorem known_zero (C : Vec F S32x32x16384 .i16) (S Q : Vec F S32x128 .f32) : Known m c 0 C S Q :=
  ⟨fun _ h => absurd h (by omega), fun h => absurd h (by omega), fun h => absurd h (by omega)⟩

/-! ### The four stores of codes -/

theorem off1_0 : ∀ t : Fin grid0.N, k0_off1 (grid0.coords t) 0#32 = ![2 * t.val, 0, 0] := by decide +kernel
theorem off1_1 : ∀ t : Fin grid0.N, k0_off1 (grid0.coords t) 1#32 = ![2 * t.val + 1, 0, 0] := by decide +kernel
theorem off2_0 : ∀ t : Fin grid0.N, k0_off2 (grid0.coords t) 0#32 = ![2 * t.val, 0, 8192] := by decide +kernel
theorem off2_1 : ∀ t : Fin grid0.N, k0_off2 (grid0.coords t) 1#32 = ![2 * t.val + 1, 0, 8192] := by decide +kernel
theorem first_iff : ∀ t : Fin grid0.N, first (grid0.coords t) = 1#1 ↔ t.val = 0 := by decide +kernel
theorem last_iff : ∀ t : Fin grid0.N, k0_cond2 (grid0.coords t) = 1#1 ↔ t.val = 15 := by decide +kernel

/-- A put of a quarter of a row, read inside it. -/
theorem put_in (x : Vec F S32x32x16384 .i16) (off : Fin 3 → ℕ) (r z : ℕ) (ho : off = ![r, 0, z]) (w : Vec F S1x32x8192 .i16)
    (y : S32x32x16384.Idx) (hr : (y 0).val = r) (hz : z ≤ (y 2).val) (hz' : (y 2).val < z + 8192) :
    VecWindow.put x off S1x32x8192.size w y = w (ix3 0 (y 1) ⟨(y 2).val - z, by omega⟩) := by
  subst ho
  have h : ∀ a : Fin 3, ![r, 0, z] a ≤ (y a).val ∧ (y a).val < ![r, 0, z] a + S1x32x8192.size a := by
    intro a
    match a with
    | ⟨0, _⟩ => exact ⟨hr.ge, show (y 0).val < r + 1 by omega⟩
    | ⟨1, _⟩ => exact ⟨Nat.zero_le _, show (y 1).val < 0 + 32 by have := (y 1).isLt; have e : S32x32x16384.size 1 = 32 := rfl; omega⟩
    | ⟨2, _⟩ => exact ⟨hz, hz'⟩
  refine (dif_pos h).trans (congrArg w ?_)
  funext a
  match a with
  | ⟨0, _⟩ => exact Fin.ext (show (y 0).val - r = 0 by omega)
  | ⟨1, _⟩ => exact Fin.ext (show (y 1).val - 0 = (y 1).val by omega)
  | ⟨2, _⟩ => exact Fin.ext rfl

/-- The same, read outside it. -/
theorem put_out (x : Vec F S32x32x16384 .i16) (off : Fin 3 → ℕ) (r z : ℕ) (ho : off = ![r, 0, z]) (w : Vec F S1x32x8192 .i16)
    (y : S32x32x16384.Idx) (h : (y 0).val ≠ r ∨ (y 2).val < z ∨ z + 8192 ≤ (y 2).val) :
    VecWindow.put x off S1x32x8192.size w y = x y := by
  subst ho
  refine dif_neg fun hall => ?_
  have h0 : r ≤ (y 0).val ∧ (y 0).val < r + 1 := hall 0
  have h2 : z ≤ (y 2).val ∧ (y 2).val < z + 8192 := hall 2
  omega

/-- A step's stores put its four quarters where `codes` says. -/
theorem codes_of (t : Fin cfg0.N) (k : Fin 4) (y : S32x32x16384.Idx) (z : ℕ) (hz : z ≤ (y 2).val) (hz' : (y 2).val < z + 8192)
    (hk : (y 0).val = 2 * t.val + k.val / 2) (hk2 : z = 8192 * (k.val % 2)) :
    quarterCodes m c t k (ix3 0 (y 1) ⟨(y 2).val - z, by omega⟩) = codes m c y := by
  unfold codes
  have e1 : (⟨(y 0).val / 2, by have h : (y 0).val < 32 := (y 0).isLt; have e : cfg0.N = 16 := N_0; omega⟩ : Fin cfg0.N) = t :=
    Fin.ext (show (y 0).val / 2 = t.val by omega)
  have e2 : (⟨2 * ((y 0).val % 2) + (y 2).val / 8192, by have h : (y 2).val < 16384 := (y 2).isLt; omega⟩ : Fin 4) = k :=
    Fin.ext (show 2 * ((y 0).val % 2) + (y 2).val / 8192 = k.val by omega)
  have e3 : (⟨(y 2).val - z, by omega⟩ : Fin 8192) = ⟨(y 2).val % 8192, Nat.mod_lt _ (by decide)⟩ :=
    Fin.ext (show (y 2).val - z = (y 2).val % 8192 by omega)
  rw [e1, e2, e3]

theorem stepC_codes (t : Fin cfg0.N) (C : Vec F S32x32x16384 .i16) (hC : ∀ y, (y 0).val < 2 * t.val → C y = codes m c y)
    (y : S32x32x16384.Idx) (hy : (y 0).val < 2 * (t.val + 1)) :
    stepC (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) C y = codes m c y := by
  have h2 : (y 2).val < 16384 := (y 2).isLt
  unfold stepC
  by_cases h3 : (y 0).val = 2 * t.val + 1 ∧ 8192 ≤ (y 2).val
  · rw [put_in _ _ _ _ (off2_1 t) _ y h3.1 h3.2 (by omega)]
    exact codes_of m c t 3 y 8192 h3.2 (by omega) (show _ = 2 * t.val + 3 / 2 by omega) rfl
  rw [put_out _ _ _ _ (off2_1 t) _ y (by omega)]
  by_cases h1 : (y 0).val = 2 * t.val + 1
  · rw [put_in _ _ _ _ (off1_1 t) _ y h1 (by omega) (by omega)]
    exact codes_of m c t 2 y 0 (by omega) (by omega) (show _ = 2 * t.val + 2 / 2 by omega) rfl
  rw [put_out _ _ _ _ (off1_1 t) _ y (by omega)]
  by_cases h4 : (y 0).val = 2 * t.val ∧ 8192 ≤ (y 2).val
  · rw [put_in _ _ _ _ (off2_0 t) _ y h4.1 h4.2 (by omega)]
    exact codes_of m c t 1 y 8192 h4.2 (by omega) (show _ = 2 * t.val + 1 / 2 by omega) rfl
  rw [put_out _ _ _ _ (off2_0 t) _ y (by omega)]
  by_cases h5 : (y 0).val = 2 * t.val
  · rw [put_in _ _ _ _ (off1_0 t) _ y h5 (by omega) (by omega)]
    exact codes_of m c t 0 y 0 (by omega) (by omega) (show _ = 2 * t.val + 0 / 2 by omega) rfl
  rw [put_out _ _ _ _ (off1_0 t) _ y (by omega)]
  exact hC y (by omega)

/-- What a step knows before it, it knows after it, of what it leaves. -/
theorem known_step (t : Fin cfg0.N) (C : Vec F S32x32x16384 .i16) (S Q : Vec F S32x128 .f32) (h : Known m c t.val C S Q) :
    Known m c (t.val + 1) (stepC (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) C)
      (stepS (grid0.coords t) (iblk m c 0 t) (iblk m c 1 t) (iblk m c 2 t) (iblk m c 3 t) (iblk m c 4 t) (iblk m c 5 t) (iblk m c 6 t) (iblk m c 7 t) (iblk m c 8 t) (iblk m c 9 t) S)
      (stepQ (grid0.coords t) (iblk m c 0 t) (iblk m c 1 t) (iblk m c 2 t) (iblk m c 3 t) (iblk m c 4 t) (iblk m c 5 t) (iblk m c 6 t) (iblk m c 7 t) (iblk m c 8 t) (iblk m c 9 t) Q) := by
  refine ⟨stepC_codes m c t C h.1, fun _ => ?_, fun _ => ?_⟩
  · have e : (if first (grid0.coords t) = 1#1 then k0_pay31 else S) = sums m c t.val := by
      by_cases h0 : t.val = 0
      · rw [if_pos ((first_iff t).mpr h0), h0]; rfl
      · rw [if_neg fun hf => h0 ((first_iff t).mp hf)]; exact h.2.1 (Nat.pos_of_ne_zero h0)
    unfold stepS
    rw [e, sums, dif_pos t.isLt]
    rfl
  · have e : (if first (grid0.coords t) = 1#1 then k0_pay32 else Q) = squares m c t.val := by
      by_cases h0 : t.val = 0
      · rw [if_pos ((first_iff t).mpr h0), h0]; rfl
      · rw [if_neg fun hf => h0 ((first_iff t).mp hf)]; exact h.2.2 (Nat.pos_of_ne_zero h0)
    unfold stepQ
    rw [e, squares, dif_pos t.isLt]
    rfl

/-- After the last step everything is known. -/
theorem known_last {C : Vec F S32x32x16384 .i16} {S Q : Vec F S32x128 .f32} (h : Known m c 16 C S Q) :
    C = codes m c ∧ S = sums m c 16 ∧ Q = squares m c 16 :=
  ⟨funext fun y => h.1 y (by have := (y 0).isLt; have e : S32x32x16384.size 0 = 32 := rfl; omega), h.2.1 (by decide), h.2.2 (by decide)⟩

/-- The block the last step stores. -/
def result (t : Fin cfg0.N) : Vec F S32x16 .f32 :=
  outBlock (iblk m c 11 t) (iblk m c 12 t) (iblk m c 13 t) (iblk m c 14 t) (iblk m c 16 t) (iblk m c 17 t) (codes m c) (sums m c 16) (squares m c 16)

/-! ## The pipeline's proof data -/

/-- The carried buffers before step `n`: codes and sums as `Known` says, the second phase's four accumulators at any contents. -/
def carried (n : ℕ) : sProp 𝕄 :=
  iprop((∃ C S Q, ⌜Known m c n C S Q⌝ ∗ held c (Memref.whole cc0_scratch0) C ∗ held c (Memref.whole cc0_scratch1) S ∗ held c (Memref.whole cc0_scratch2) Q)
    ∗ (∃ p : Pool F, held c (Memref.whole cc0_scratch3) p.s ∗ held c (Memref.whole cc0_scratch4) p.q ∗ held c (Memref.whole cc0_scratch5) p.mx ∗ held c (Memref.whole cc0_scratch6) p.mn)
    ∗ ∃ r, prngReg c r)

/-- The proof data of the pipeline: inputs stay in place, the output is `result`, the carried buffers as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => result m c t
    | ⟨_ + 19, h⟩ => absurd h (Nat.not_lt.2 (Nat.le_add_left _ _))
  Φ t := carried m c t.val
  q w := Pipeline.shareOf spec0 w
  owed _ := 0

theorem A_eq (w : Fin cfg0.W) : (dats m 0 c).A w = V m c (Pipeline.arrRef spec0 w) := by dsimp only [dats]
theorem before_0 (t : Fin cfg0.N) (d) : (dats m 0 c).before 0 t d = iblk m c 0 t :=
  before0_0_of m (dats m 0 c) (A_eq m c 0) (fun t => by dsimp only [dats]) t d
theorem before_1 (t : Fin cfg0.N) (d) : (dats m 0 c).before 1 t d = iblk m c 1 t :=
  before0_1_of m (dats m 0 c) (A_eq m c 1) (fun t => by dsimp only [dats]) t d
theorem before_2 (t : Fin cfg0.N) (d) : (dats m 0 c).before 2 t d = iblk m c 2 t :=
  before0_2_of m (dats m 0 c) (A_eq m c 2) (fun t => by dsimp only [dats]) t d
theorem before_3 (t : Fin cfg0.N) (d) : (dats m 0 c).before 3 t d = iblk m c 3 t :=
  before0_3_of m (dats m 0 c) (A_eq m c 3) (fun t => by dsimp only [dats]) t d
theorem before_4 (t : Fin cfg0.N) (d) : (dats m 0 c).before 4 t d = iblk m c 4 t :=
  before0_4_of m (dats m 0 c) (A_eq m c 4) (fun t => by dsimp only [dats]) t d
theorem before_5 (t : Fin cfg0.N) (d) : (dats m 0 c).before 5 t d = iblk m c 5 t :=
  before0_5_of m (dats m 0 c) (A_eq m c 5) (fun t => by dsimp only [dats]) t d
theorem before_6 (t : Fin cfg0.N) (d) : (dats m 0 c).before 6 t d = iblk m c 6 t :=
  before0_6_of m (dats m 0 c) (A_eq m c 6) (fun t => by dsimp only [dats]) t d
theorem before_7 (t : Fin cfg0.N) (d) : (dats m 0 c).before 7 t d = iblk m c 7 t :=
  before0_7_of m (dats m 0 c) (A_eq m c 7) (fun t => by dsimp only [dats]) t d
theorem before_8 (t : Fin cfg0.N) (d) : (dats m 0 c).before 8 t d = iblk m c 8 t :=
  before0_8_of m (dats m 0 c) (A_eq m c 8) (fun t => by dsimp only [dats]) t d
theorem before_9 (t : Fin cfg0.N) (d) : (dats m 0 c).before 9 t d = iblk m c 9 t :=
  before0_9_of m (dats m 0 c) (A_eq m c 9) (fun t => by dsimp only [dats]) t d
theorem before_10 (t : Fin cfg0.N) (d) : (dats m 0 c).before 10 t d = iblk m c 10 t :=
  before0_10_of m (dats m 0 c) (A_eq m c 10) (fun t => by dsimp only [dats]) t d
theorem before_11 (t : Fin cfg0.N) (d) : (dats m 0 c).before 11 t d = iblk m c 11 t :=
  before0_11_of m (dats m 0 c) (A_eq m c 11) (fun t => by dsimp only [dats]) t d
theorem before_12 (t : Fin cfg0.N) (d) : (dats m 0 c).before 12 t d = iblk m c 12 t :=
  before0_12_of m (dats m 0 c) (A_eq m c 12) (fun t => by dsimp only [dats]) t d
theorem before_13 (t : Fin cfg0.N) (d) : (dats m 0 c).before 13 t d = iblk m c 13 t :=
  before0_13_of m (dats m 0 c) (A_eq m c 13) (fun t => by dsimp only [dats]) t d
theorem before_14 (t : Fin cfg0.N) (d) : (dats m 0 c).before 14 t d = iblk m c 14 t :=
  before0_14_of m (dats m 0 c) (A_eq m c 14) (fun t => by dsimp only [dats]) t d
theorem before_15 (t : Fin cfg0.N) (d) : (dats m 0 c).before 15 t d = iblk m c 15 t :=
  before0_15_of m (dats m 0 c) (A_eq m c 15) (fun t => by dsimp only [dats]) t d
theorem before_16 (t : Fin cfg0.N) (d) : (dats m 0 c).before 16 t d = iblk m c 16 t :=
  before0_16_of m (dats m 0 c) (A_eq m c 16) (fun t => by dsimp only [dats]) t d
theorem before_17 (t : Fin cfg0.N) (d) : (dats m 0 c).before 17 t d = iblk m c 17 t :=
  before0_17_of m (dats m 0 c) (A_eq m c 17) (fun t => by dsimp only [dats]) t d

end Cert.KernelIdeal.Run
end
-- ==== Proof.KI.Launch.lean ====
/-
  The body's obligation at every grid step: from what the carried buffers hold before it to what they hold after it.
-/
module

public import proofs.«01_k».proof.Proof.KI.Carry
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg) (c : Dev nD)

/-! ## The body at every point -/

theorem hold_intro {b : Ref sig .tc} (c : Dev nD) (f : Buf (Elt F) ((c : Thread nD τ).loc b)) :
    (((c : Thread nD τ).loc b) ↦{fullShare} f : sProp 𝕄) ⊢ ((Memref.whole b).view.loc (c : Thread nD τ) ↦[(Memref.whole b).view.set]{fullShare} (Memref.whole b).view.rep f) := by
  rw [← owns_whole (c : Thread nD τ) b fullShare f, owns_eq_rep]

theorem hold_elim {b : Ref sig .tc} (c : Dev nD) (f : b.ty.Contents (Elt F)) :
    ((Memref.whole b).view.loc (c : Thread nD τ) ↦[(Memref.whole b).view.set]{fullShare} (Memref.whole b).view.rep f) ⊢ (((c : Thread nD τ).loc b) ↦{fullShare} f : sProp 𝕄) := by
  rw [← owns_eq_rep (c : Thread nD τ) (Memref.whole b) fullShare f, owns_whole]

theorem last_at (t : Fin cfg0.N) : k0_cond2 (grid0.coords t) = 1#1 ↔ t.val = 15 := last_iff t

/-- At a point that stores no output, the output's buffer goes back as it was found. -/
theorem leaves_idle (t : Fin cfg0.N) (h : k0_cond2 (grid0.coords t) ≠ 1#1) :
    iprop(∃ d, owns (c : Thread nD τ) (st0_18 t) fullShare ((dats m 0 c).before 18 t d)) ⊢ ((dats m 0 c).leavesExact 18 t : sProp 𝕄) := by
  have hi : cfg0.idle 18 (cfg0.grid.coords t) = true := by
    show (!(k0_cond2 (grid0.coords t) == 1#1)) = true
    rw [beq_eq_false_iff_ne.mpr h]; rfl
  have hf : (cfg0.win 18).flush t = false := by
    rcases hb : (cfg0.win 18).flush t with _ | _
    · rfl
    · have h15 := (flush0_18 t).mp hb
      have hN : t.val < 16 := Nat.lt_of_lt_of_eq t.isLt N_0
      exact absurd ((last_at t).mpr (by omega)) h
  unfold Dat.leavesExact
  rw [hi, hf]

/-- At the last point, which stores it, it holds the result. -/
theorem leaves_last (t : Fin cfg0.N) (h : k0_cond2 (grid0.coords t) = 1#1) :
    (owns (c : Thread nD τ) (st0_18 t) fullShare (result m c t)) ⊢ ((dats m 0 c).leavesExact 18 t : sProp 𝕄) := by
  have hi : cfg0.idle 18 (cfg0.grid.coords t) = false := by
    show (!(k0_cond2 (grid0.coords t) == 1#1)) = false
    rw [beq_iff_eq.mpr h]; rfl
  unfold Dat.leavesExact
  rw [hi]
  exact .rfl

/-- What the obligation gives the body at a point, and what it asks back. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ (dats m 0 c).leavesExact 18 t)

set_option maxHeartbeats 4000000 in
theorem sound_body (t : Fin cfg0.N) :
    bodyPre m c t ⊢ wp frame (wpE (defs₀ (F := F)) Variants.none c none) Set.univ (bodyAt0 (F := F) t) (fun _ => bodyPost m c t) := by
  unfold bodyPre bodyPost
  rw [show (dats m 0 c).owesAt () t.succ = (dats m 0 c).owesAt () t.castSucc from rfl,
    show (dats m 0 c).Φ t.castSucc = carried m c t.val from rfl, show (dats m 0 c).Φ t.succ = carried m c (t.val + 1) from rfl]
  simp only [before_0, before_1, before_2, before_3, before_4, before_5, before_6, before_7, before_8, before_9, before_10, before_11, before_12, before_13, before_14, before_15, before_16, before_17]
  rw [show (dats m 0 c).after 0 t = iblk m c 0 t from by dsimp only [dats], show (dats m 0 c).after 1 t = iblk m c 1 t from by dsimp only [dats], show (dats m 0 c).after 2 t = iblk m c 2 t from by dsimp only [dats], show (dats m 0 c).after 3 t = iblk m c 3 t from by dsimp only [dats], show (dats m 0 c).after 4 t = iblk m c 4 t from by dsimp only [dats], show (dats m 0 c).after 5 t = iblk m c 5 t from by dsimp only [dats], show (dats m 0 c).after 6 t = iblk m c 6 t from by dsimp only [dats], show (dats m 0 c).after 7 t = iblk m c 7 t from by dsimp only [dats], show (dats m 0 c).after 8 t = iblk m c 8 t from by dsimp only [dats], show (dats m 0 c).after 9 t = iblk m c 9 t from by dsimp only [dats], show (dats m 0 c).after 10 t = iblk m c 10 t from by dsimp only [dats], show (dats m 0 c).after 11 t = iblk m c 11 t from by dsimp only [dats], show (dats m 0 c).after 12 t = iblk m c 12 t from by dsimp only [dats], show (dats m 0 c).after 13 t = iblk m c 13 t from by dsimp only [dats], show (dats m 0 c).after 14 t = iblk m c 14 t from by dsimp only [dats], show (dats m 0 c).after 15 t = iblk m c 15 t from by dsimp only [dats], show (dats m 0 c).after 16 t = iblk m c 16 t from by dsimp only [dats], show (dats m 0 c).after 17 t = iblk m c 17 t from by dsimp only [dats]]
  simp only [owns_eq_rep]
  unfold carried
  iintro ⟨⟨⟨%C, %S, %Q, %hK, HC, HS, HQ⟩, ⟨%p, Hs, Hq, Hx, Hn⟩, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hK' := known_step m c t C S Q hK
  iapply (step_sound c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) (st0_11 t) (hstage0_11 _) (st0_12 t) (hstage0_12 _) (st0_13 t) (hstage0_13 _) (st0_14 t) (hstage0_14 _) (st0_15 t) (hstage0_15 _) (st0_16 t) (hstage0_16 _) (st0_17 t) (hstage0_17 _) (st0_18 t) (hstage0_18 _) _ (Memref.isWhole_whole _) _ (Memref.isWhole_whole _) _ (Memref.isWhole_whole _) _ (Memref.isWhole_whole _) _ (Memref.isWhole_whole _) _ (Memref.isWhole_whole _) _ (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) C S Q _)
  isplitl [H0 H1 H2 H3 H4 H5 H6 H7 H8 H9 H10 HC HS HQ]
  · isplitl [H0 H1 H2 H3 H4 H5 H6 H7 H8 H9 H10]
    · sl_close
    · sl_close
  iintro ⟨⟨H0, H1, H2, H3, H4, H5, H6, H7, H8, H9, H10⟩, HC, HS, HQ⟩
  by_cases h2 : k0_cond2 (grid0.coords t) = 1#1
  · have h15 : t.val + 1 = 16 := by have := (last_at t).mp h2; omega
    rw [h15] at hK' ⊢
    obtain ⟨eC, eS, eQ⟩ := known_last m c hK'
    rw [eC, eS, eQ]
    rw [eC, eS, eQ] at hK'
    iapply (phaseB_sound c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) (st0_11 t) (hstage0_11 _) (st0_12 t) (hstage0_12 _) (st0_13 t) (hstage0_13 _) (st0_14 t) (hstage0_14 _) (st0_15 t) (hstage0_15 _) (st0_16 t) (hstage0_16 _) (st0_17 t) (hstage0_17 _) (st0_18 t) (hstage0_18 _) _ (Memref.isWhole_whole _) _ (Memref.isWhole_whole _) _ (Memref.isWhole_whole _) _ (Memref.isWhole_whole _) _ (Memref.isWhole_whole _) _ (Memref.isWhole_whole _) _ (Memref.isWhole_whole _)
      (iblk m c 11 t) (iblk m c 12 t) (iblk m c 13 t) (iblk m c 14 t) (iblk m c 16 t) (iblk m c 17 t) (codes m c) (sums m c 16) (squares m c 16) h2 ((dats m 0 c).before 18 t d18) p _)
    isplitl [H11 H12 H13 H14 H16 H17 H18 HC HS HQ Hs Hq Hx Hn]
    · sl_close
    iintro ⟨H11, H12, H13, H14, H16, H17, H18, HC, HS, HQ, Hs, Hq, Hx, Hn⟩
    isplitl [HC HS HQ Hs Hq Hx Hn Hg]
    · isplitl [HC HS HQ]
      · iexists _, _, _
        isplitr
        · ipureintro; exact hK'
        sl_close
      isplitl [Hs Hq Hx Hn]
      · iexists (poolEnd (iblk m c 11 t) (iblk m c 12 t) (iblk m c 13 t) (iblk m c 14 t) (codes m c) (sums m c 16) (squares m c 16))
        sl_close
      iexact Hg
    isplitl [Howe]; · iexact Howe

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iapply (leaves_last m c t h2)
    rw [owns_eq_rep]
    iexact H18
  · unfold phaseB
    rw [dif_neg h2]
    sl_step
    isplitl [HC HS HQ Hs Hq Hx Hn Hg]
    · isplitl [HC HS HQ]
      · iexists _, _, _
        isplitr
        · ipureintro; exact hK'
        sl_close
      isplitl [Hs Hq Hx Hn]
      · iexists p
        sl_close
      iexact Hg
    isplitl [Howe]; · iexact Howe

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iapply (leaves_idle m c t h2)
    iexists d18
    rw [owns_eq_rep]
    iexact H18

end Cert.KernelIdeal.Run
end
-- ==== Proof.KI.Run.lean ====
/-
  The whole run of the program: the launch, the pipeline, the host operations around it, and the frame claim.
-/
module

public import proofs.«01_k».proof.Proof.KI.Launch
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The launch -/

theorem body_obligation (c : Dev nD) : BodyObligation (dats m 0 c) defs₀ Variants.none () Set.univ := fun t => by
  rw [bigSep_W0, bigSep_W0]
  exact sound_body m c t

theorem carried_in (c : Dev nD) : (Pipeline.ΦA spec0 c : sProp 𝕄) ⊢ (dats m 0 c).Φ 0 := by
  show (Pipeline.ΦA spec0 c : sProp 𝕄) ⊢ carried m c 0
  unfold Pipeline.ΦA
  rw [scopedRest0_eq]
  unfold carried
  iintro ⟨⟨⟨%C, HC⟩, ⟨%S, HS⟩, ⟨%Q, HQ⟩, ⟨%s, Hs⟩, ⟨%q, Hq⟩, ⟨%x, Hx⟩, ⟨%n, Hn⟩⟩, Hg⟩
  isplitl [HC HS HQ]
  · iexists C, S, Q
    isplitr
    · ipureintro; exact known_zero m c C S Q
    isplitl [HC]; · iapply (hold_intro c C) $$ HC
    isplitl [HS]; · iapply (hold_intro c S) $$ HS
    iapply (hold_intro c Q) $$ HQ
  isplitl [Hs Hq Hx Hn]
  · iexists ⟨s, q, x, n⟩
    isplitl [Hs]; · iapply (hold_intro c s) $$ Hs
    isplitl [Hq]; · iapply (hold_intro c q) $$ Hq
    isplitl [Hx]; · iapply (hold_intro c x) $$ Hx
    iapply (hold_intro c n) $$ Hn
  iexact Hg

theorem carried_out (c : Dev nD) : (dats m 0 c).Φ (Fin.last cfg0.N) ⊢ (Pipeline.ΦA spec0 c : sProp 𝕄) := by
  show carried m c (Fin.last cfg0.N).val ⊢ (Pipeline.ΦA spec0 c : sProp 𝕄)
  unfold Pipeline.ΦA
  rw [scopedRest0_eq]
  unfold carried
  iintro ⟨⟨%C, %S, %Q, %hK, HC, HS, HQ⟩, ⟨%p, Hs, Hq, Hx, Hn⟩, Hg⟩
  isplitr [Hg]
  · isplitl [HC]; · iexists C; iapply (hold_elim (b := cc0_scratch0) c C) $$ HC
    isplitl [HS]; · iexists S; iapply (hold_elim (b := cc0_scratch1) c S) $$ HS
    isplitl [HQ]; · iexists Q; iapply (hold_elim (b := cc0_scratch2) c Q) $$ HQ
    isplitl [Hs]; · iexists p.s; iapply (hold_elim (b := cc0_scratch3) c p.s) $$ Hs
    isplitl [Hq]; · iexists p.q; iapply (hold_elim (b := cc0_scratch4) c p.q) $$ Hq
    isplitl [Hx]; · iexists p.mx; iapply (hold_elim (b := cc0_scratch5) c p.mx) $$ Hx
    iexists p.mn; iapply (hold_elim (b := cc0_scratch6) c p.mn) $$ Hn
  iexact Hg

set_option backward.isDefEq.respectTransparency.types false in
/-- The run: every array ends at what the proof data says, every other buffer at what the lines after the call leave, and
    every semaphore at zero. -/
theorem run (Q' : PUnit × MemSt nD τ sig (Elt F) → Prop)
    (hQ' : ∀ r, Pipeline.FramePost cfgs (dats m) 0 (Pipeline.afterTail₀ cfgs (dats m) 0 (V0 m) [hostOps1]) r ∧ r.2.sem = (fun _ => 0) → Q' r) :
    θ_run defs (onTc (τ := τ) (main (F := F))) (s₀ m ρ) Q' :=
  Pipeline.θ_run_frame_around_track_shared cfgs (dats m) 0 launch₀0 defs₀ Variants.none m ρ main
    (fun c => (body_obligation m c).loose) (fun _ _ _ => rfl) (fun _ _ => rfl) (V0 m) [hostOps1] sfx_sub sfx_fresh sfx_keeps
    (hmain m Variants.none) (fun c w => A_eq m c w) (carried_in m) (carried_out m) Q' hQ'

/-- Every execution ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  run m ρ _ fun r hr => ⟨fun c =>
    have h := hr.1
    ⟨((h c).1 3).trans (((dats m 0 c).arrAt_in 3 rfl _).trans ((A_eq m c 3).trans (V_main_arg0 m c))),
      ((h c).1 7).trans (((dats m 0 c).arrAt_in 7 rfl _).trans ((A_eq m c 7).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 14).trans (((dats m 0 c).arrAt_in 14 rfl _).trans ((A_eq m c 14).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩, hr.2⟩

end Cert.KernelIdeal.Run
end
-- ==== Proof.V.Lift.lean ====
/-
  From the extended reals to the reals: the operations of the idealized programs at real arguments, the constants the
  two programs use, and the greatest and the least of finitely many reals.
-/
module

public import Idealize.ShloMosaic.Lib.Pointwise
public import Mathlib.Data.EReal.Operations

@[expose] public section

noncomputable section

namespace Cert.Lift

open Idealize.ShloMosaic

/-- A finite sum of reals is real. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem max_real (a b : ℝ) : max (a : EReal) (b : EReal) = ((max a b : ℝ) : EReal) :=
  (Monotone.map_max (f := Real.toEReal) (fun _ _ h => EReal.coe_le_coe_iff.2 h)).symm
theorem min_real (a b : ℝ) : min (a : EReal) (b : EReal) = ((min a b : ℝ) : EReal) :=
  (Monotone.map_min (f := Real.toEReal) (fun _ _ h => EReal.coe_le_coe_iff.2 h)).symm

/-- Division by a real other than zero. -/
theorem div_real (x : ℝ) {y : ℝ} (h : y ≠ 0) : Ideal.div (x : EReal) (y : EReal) = ((x / y : ℝ) : EReal) := by
  rw [Ideal.div_coe h, ← EReal.coe_mul, mul_one_div]
theorem sqrt_real {r : ℝ} (h : 0 ≤ r) : Ideal.sqrt (r : EReal) = ((Real.sqrt r : ℝ) : EReal) := by
  rw [Ideal.sqrt_coe, if_neg (not_lt.2 h)]
theorem rsqrt_real {r : ℝ} (h : 0 < r) : Ideal.rsqrt (r : EReal) = (((Real.sqrt r)⁻¹ : ℝ) : EReal) := by
  rw [Ideal.rsqrt_coe, if_neg (not_lt.2 h.le), if_neg h.ne']

/-! ## The constants -/

/-- The added constant under the square roots of the batch norms. -/
def eps : ℝ := (2 ^ 23 + 2606508 : ℕ) * (2 : ℝ) ^ (-40 : ℤ)
/-- The added constant under the quantiser's scale. -/
def tiny : ℝ := (2 ^ 23 + 3990792 : ℕ) * (2 : ℝ) ^ (-90 : ℤ)

theorem eps_pos : 0 < eps := by unfold eps; positivity
theorem tiny_pos : 0 < tiny := by unfold tiny; positivity

theorem bits_eps : Ideal.ofBits .f32 0x3727C5AC#32 = ((eps : ℝ) : EReal) := by
  have h1 : (BitVec.extractLsb' 31 1 (0x3727C5AC#32) == 1#1) = false := by decide
  have h2 : (BitVec.extractLsb' 23 8 (0x3727C5AC#32)).toNat = 110 := by decide
  have h3 : (BitVec.extractLsb' 0 23 (0x3727C5AC#32)).toNat = 2606508 := by decide
  simp only [Ideal.ofBits, Ideal.ieee, h1, h2, h3, eps]
  norm_num
theorem bits_tiny : Ideal.ofBits .f32 0x1E3CE508#32 = ((tiny : ℝ) : EReal) := by
  have h1 : (BitVec.extractLsb' 31 1 (0x1E3CE508#32) == 1#1) = false := by decide
  have h2 : (BitVec.extractLsb' 23 8 (0x1E3CE508#32)).toNat = 60 := by decide
  have h3 : (BitVec.extractLsb' 0 23 (0x1E3CE508#32)).toNat = 3990792 := by decide
  simp only [Ideal.ofBits, Ideal.ieee, h1, h2, h3, tiny]
  norm_num
theorem bits_count : Ideal.ofBits .f32 0x49000000#32 = ((524288 : ℝ) : EReal) := by
  have h1 : (BitVec.extractLsb' 31 1 (0x49000000#32) == 1#1) = false := by decide
  have h2 : (BitVec.extractLsb' 23 8 (0x49000000#32)).toNat = 146 := by decide
  have h3 : (BitVec.extractLsb' 0 23 (0x49000000#32)).toNat = 0 := by decide
  simp only [Ideal.ofBits, Ideal.ieee, h1, h2, h3]
  norm_num
theorem bits_sixteen : Ideal.ofBits .f32 0x41800000#32 = ((16 : ℝ) : EReal) := by
  have h1 : (BitVec.extractLsb' 31 1 (0x41800000#32) == 1#1) = false := by decide
  have h2 : (BitVec.extractLsb' 23 8 (0x41800000#32)).toNat = 131 := by decide
  have h3 : (BitVec.extractLsb' 0 23 (0x41800000#32)).toNat = 0 := by decide
  simp only [Ideal.ofBits, Ideal.ieee, h1, h2, h3]
  norm_num
theorem bits_one : Ideal.ofBits .f32 0x3F800000#32 = ((1 : ℝ) : EReal) := by
  have h1 : (BitVec.extractLsb' 31 1 (0x3F800000#32) == 1#1) = false := by decide
  have h2 : (BitVec.extractLsb' 23 8 (0x3F800000#32)).toNat = 127 := by decide
  have h3 : (BitVec.extractLsb' 0 23 (0x3F800000#32)).toNat = 0 := by decide
  simp only [Ideal.ofBits, Ideal.ieee, h1, h2, h3]
  norm_num
theorem bits_hi : Ideal.ofBits .f32 0x46FFFE00#32 = ((32767 : ℝ) : EReal) := by
  have h1 : (BitVec.extractLsb' 31 1 (0x46FFFE00#32) == 1#1) = false := by decide
  have h2 : (BitVec.extractLsb' 23 8 (0x46FFFE00#32)).toNat = 141 := by decide
  have h3 : (BitVec.extractLsb' 0 23 (0x46FFFE00#32)).toNat = 8388096 := by decide
  simp only [Ideal.ofBits, Ideal.ieee, h1, h2, h3]
  norm_num
theorem bits_lo : Ideal.ofBits .f32 0xC6FFFE00#32 = ((-32767 : ℝ) : EReal) := by
  have h1 : (BitVec.extractLsb' 31 1 (0xC6FFFE00#32) == 1#1) = true := by decide
  have h2 : (BitVec.extractLsb' 23 8 (0xC6FFFE00#32)).toNat = 141 := by decide
  have h3 : (BitVec.extractLsb' 0 23 (0xC6FFFE00#32)).toNat = 8388096 := by decide
  simp only [Ideal.ofBits, Ideal.ieee, h1, h2, h3]
  norm_num
theorem bits_top : Ideal.ofBits .f32 0x7F800000#32 = (⊤ : EReal) := by
  have h1 : (BitVec.extractLsb' 31 1 (0x7F800000#32) == 1#1) = false := by decide
  have h2 : (BitVec.extractLsb' 23 8 (0x7F800000#32)).toNat = 255 := by decide
  have h3 : (BitVec.extractLsb' 0 23 (0x7F800000#32)).toNat = 0 := by decide
  simp only [Ideal.ofBits, Ideal.ieee, h1, h2, h3]
  norm_num
theorem bits_bot : Ideal.ofBits .f32 0xFF800000#32 = (⊥ : EReal) := by
  have h1 : (BitVec.extractLsb' 31 1 (0xFF800000#32) == 1#1) = true := by decide
  have h2 : (BitVec.extractLsb' 23 8 (0xFF800000#32)).toNat = 255 := by decide
  have h3 : (BitVec.extractLsb' 0 23 (0xFF800000#32)).toNat = 0 := by decide
  simp only [Ideal.ofBits, Ideal.ieee, h1, h2, h3]
  norm_num

/-! ## The codes -/

/-- A real rounded toward zero. -/
def trunc (r : ℝ) : ℤ := if 0 ≤ r then ⌊r⌋ else ⌈r⌉

theorem trunc_bounds {r : ℝ} (h1 : -32767 ≤ r) (h2 : r ≤ 32767) : -32767 ≤ trunc r ∧ trunc r ≤ 32767 := by
  unfold trunc
  split
  · next h =>
    have h0 : (0 : ℤ) ≤ ⌊r⌋ := Int.floor_nonneg.2 h
    exact ⟨by omega, by exact_mod_cast (Int.floor_le r).trans h2⟩
  · next h =>
    have h0 : ⌈r⌉ ≤ 0 := Int.ceil_le.2 (by push_cast; exact (not_le.1 h).le)
    exact ⟨by exact_mod_cast h1.trans (Int.le_ceil r), by omega⟩

/-- A code of at least 16 bits, read back, is the real it was made from rounded toward zero, if that lies within 32767 of zero. -/
theorem code_16 {r : ℝ} (h1 : -32767 ≤ r) (h2 : r ≤ 32767) :
    Ideal.fptosi 16 (r : EReal) = BitVec.ofInt 16 (trunc r) ∧ (BitVec.ofInt 16 (trunc r)).toInt = trunc r := by
  obtain ⟨a, b⟩ := trunc_bounds h1 h2
  constructor
  · unfold Ideal.fptosi
    rw [Ideal.toIntClamped_coe]
    refine congrArg _ ?_
    show max (-(2 ^ (16 - 1) : ℕ) : ℤ) (min (((2 ^ (16 - 1) : ℕ) : ℤ) - 1) (trunc r)) = trunc r
    norm_num
    omega
  · rw [BitVec.toInt_ofInt]
    exact Int.bmod_eq_of_le (by norm_num; omega) (by norm_num; omega)
theorem code_32 {r : ℝ} (h1 : -32767 ≤ r) (h2 : r ≤ 32767) :
    Ideal.fptosi 32 (r : EReal) = BitVec.ofInt 32 (trunc r) ∧ (BitVec.ofInt 32 (trunc r)).toInt = trunc r := by
  obtain ⟨a, b⟩ := trunc_bounds h1 h2
  constructor
  · unfold Ideal.fptosi
    rw [Ideal.toIntClamped_coe]
    refine congrArg _ ?_
    show max (-(2 ^ (32 - 1) : ℕ) : ℤ) (min (((2 ^ (32 - 1) : ℕ) : ℤ) - 1) (trunc r)) = trunc r
    norm_num
    omega
  · rw [BitVec.toInt_ofInt]
    exact Int.bmod_eq_of_le (by norm_num; omega) (by norm_num; omega)

theorem read_16 {r : ℝ} (h1 : -32767 ≤ r) (h2 : r ≤ 32767) :
    (FloatOps.sitofp (F := Ideal) .f32 (FloatOps.fptosi (F := Ideal) (φ := .f32) 16 (r : EReal)) : EReal) = ((trunc r : ℝ) : EReal) := by
  show (((Ideal.fptosi 16 (r : EReal)).toInt : ℝ) : EReal) = _
  rw [(code_16 h1 h2).1, (code_16 h1 h2).2]
theorem read_32 {r : ℝ} (h1 : -32767 ≤ r) (h2 : r ≤ 32767) :
    (FloatOps.sitofp (F := Ideal) .f32 (FloatOps.fptosi (F := Ideal) (φ := .f32) 32 (r : EReal)) : EReal) = ((trunc r : ℝ) : EReal) := by
  show (((Ideal.fptosi 32 (r : EReal)).toInt : ℝ) : EReal) = _
  rw [(code_32 h1 h2).1, (code_32 h1 h2).2]

/-! ## The greatest and the least of finitely many reals -/

/-- The running maximum from minus infinity is the greatest value. -/
theorem fold_max {n : ℕ} (f : Fin n → ℝ) (k : Fin n) (h : ∀ i, f i ≤ f k) :
    Finset.fold max (⊥ : EReal) (fun i => (f i : EReal)) Finset.univ = (f k : EReal) := by
  refine le_antisymm ?_ ?_
  · exact Finset.fold_max_le _ |>.2 ⟨bot_le, fun i _ => EReal.coe_le_coe_iff.2 (h i)⟩
  · exact (Finset.le_fold_max _).2 (.inr ⟨k, Finset.mem_univ _, le_rfl⟩)

/-- The maximum over two halves is the maximum over the whole. -/
theorem fold_max_halves {n : ℕ} (a b : Fin n → ℝ) (v : ℝ) (ha : ∀ i, a i ≤ v) (hb : ∀ i, b i ≤ v) (hv : (∃ i, a i = v) ∨ ∃ i, b i = v) :
    max (Finset.fold max (⊥ : EReal) (fun i => (a i : EReal)) Finset.univ) (Finset.fold max (⊥ : EReal) (fun i => (b i : EReal)) Finset.univ) = (v : EReal) := by
  refine le_antisymm (max_le ?_ ?_) ?_
  · exact (Finset.fold_max_le _).2 ⟨bot_le, fun i _ => EReal.coe_le_coe_iff.2 (ha i)⟩
  · exact (Finset.fold_max_le _).2 ⟨bot_le, fun i _ => EReal.coe_le_coe_iff.2 (hb i)⟩
  · rcases hv with ⟨i, hi⟩ | ⟨i, hi⟩
    · exact le_max_of_le_left ((Finset.le_fold_max _).2 (.inr ⟨i, Finset.mem_univ _, by rw [hi]⟩))
    · exact le_max_of_le_right ((Finset.le_fold_max _).2 (.inr ⟨i, Finset.mem_univ _, by rw [hi]⟩))

/-- The minimum over two halves is the minimum over the whole. -/
theorem fold_min_halves {n : ℕ} (a b : Fin n → ℝ) (v : ℝ) (ha : ∀ i, v ≤ a i) (hb : ∀ i, v ≤ b i) (hv : (∃ i, a i = v) ∨ ∃ i, b i = v) :
    min (Finset.fold min (⊤ : EReal) (fun i => (a i : EReal)) Finset.univ) (Finset.fold min (⊤ : EReal) (fun i => (b i : EReal)) Finset.univ) = (v : EReal) := by
  refine le_antisymm ?_ (le_min ?_ ?_)
  · rcases hv with ⟨i, hi⟩ | ⟨i, hi⟩
    · exact min_le_of_left_le ((Finset.fold_min_le _).2 (.inr ⟨i, Finset.mem_univ _, by rw [hi]⟩))
    · exact min_le_of_right_le ((Finset.fold_min_le _).2 (.inr ⟨i, Finset.mem_univ _, by rw [hi]⟩))
  · exact (Finset.le_fold_min _).2 ⟨le_top, fun i _ => EReal.coe_le_coe_iff.2 (ha i)⟩
  · exact (Finset.le_fold_min _).2 ⟨le_top, fun i _ => EReal.coe_le_coe_iff.2 (hb i)⟩

end Cert.Lift

end
-- ==== Proof.V.Reals.lean ====
/-
  The problem's mathematics over the reals: the statistics of a channel, how a bias drops out of them, and the two ways
  of writing the batch norm.
-/
module

public import proofs.«01_k».proof.Proof.V.Lift
public import Mathlib.Algebra.BigOperators.Field
public import Mathlib.Tactic.FieldSimp
public import Mathlib.Tactic.Ring
public import Mathlib.Tactic.Linarith

@[expose] public section

noncomputable section

namespace Cert.Reals

open Cert.Lift

/-- The mean over the batch and the points. -/
def mean (h : Fin 16 → Fin 32768 → ℝ) : ℝ := (∑ b, ∑ n, h b n) / 524288
/-- The mean square deviation. -/
def var (h : Fin 16 → Fin 32768 → ℝ) : ℝ := mean fun b n => (h b n - mean h) * (h b n - mean h)

theorem sum_const (v : ℝ) : (∑ _b : Fin 16, ∑ _n : Fin 32768, v) = 524288 * v := by
  simp only [Finset.sum_const, Finset.card_univ, Fintype.card_fin, nsmul_eq_mul]
  push_cast
  ring

/-- A bias moves the mean by itself. -/
theorem mean_bias (h : Fin 16 → Fin 32768 → ℝ) (v : ℝ) : mean (fun b n => h b n + v) = mean h + v := by
  unfold mean
  simp only [Finset.sum_add_distrib]
  rw [sum_const]
  ring

theorem var_nonneg (h : Fin 16 → Fin 32768 → ℝ) : 0 ≤ var h :=
  div_nonneg (Finset.sum_nonneg fun b _ => Finset.sum_nonneg fun n _ => mul_self_nonneg _) (by norm_num)

/-- The mean square deviation is the mean square less the squared mean. -/
theorem var_eq (h : Fin 16 → Fin 32768 → ℝ) : var h = mean (fun b n => h b n * h b n) - mean h * mean h := by
  have e : ∀ b n, (h b n - mean h) * (h b n - mean h) = h b n * h b n + (-2 * mean h) * h b n + mean h * mean h := fun b n => by ring
  unfold var
  simp only [e]
  rw [mean_bias]
  have e2 : mean (fun b n => h b n * h b n + (-2 * mean h) * h b n) = mean (fun b n => h b n * h b n) + (-2 * mean h) * mean h := by
    conv_lhs => unfold mean
    conv_rhs => rw [mean, mean]
    simp only [Finset.sum_add_distrib, ← Finset.mul_sum]
    ring
  rw [e2]
  ring

/-- A bias leaves the mean square deviation as it is. -/
theorem var_bias (h : Fin 16 → Fin 32768 → ℝ) (v : ℝ) : var (fun b n => h b n + v) = var h := by
  unfold var
  rw [mean_bias]
  refine congrArg mean (funext fun b => funext fun n => ?_)
  ring

/-- Batch norm and relu, as the text has them. -/
def norm (h mu va g be : ℝ) : ℝ := max (g * ((h - mu) / Real.sqrt (va + eps)) + be) 0
/-- The factor that the batch norm multiplies by. -/
def gain (va g : ℝ) : ℝ := g * (Real.sqrt (va + eps))⁻¹

/-- The batch norm of a biased channel as one product and one sum, the bias gone. -/
theorem norm_eq (h v mu va g be : ℝ) : norm (h + v) (mu + v) va g be = max (gain va g * h + (be - gain va g * mu)) 0 := by
  unfold norm gain
  refine congrArg (max · 0) ?_
  rw [div_eq_mul_inv]
  ring

/-- The batch norm of what the quantiser leaves, the scale taken into the factor. -/
theorem norm_code (t s v mu va g be : ℝ) : norm (t / s + v) (mu + v) va g be = max ((gain va g * (1 / s)) * t + (be - gain va g * mu)) 0 := by
  rw [norm_eq]
  refine congrArg (max · 0) ?_
  rw [div_eq_mul_inv]
  ring

/-- The maximum of a rising or falling image: it sits where the factor's sign says. -/
theorem pick_le (a e h k : ℝ) (hk : (0 ≤ a → h ≤ k) ∧ (¬ 0 ≤ a → k ≤ h)) : max (a * h + e) 0 ≤ max (a * k + e) 0 := by
  refine max_le_max ?_ le_rfl
  by_cases h0 : 0 ≤ a
  · have := mul_le_mul_of_nonneg_left (hk.1 h0) h0; linarith
  · have := mul_le_mul_of_nonpos_left (hk.2 h0) (not_le.1 h0).le; linarith

/-! ## The two layers -/

section Net
variable (X : Fin 16 → Fin 3 → Fin 32768 → ℝ) (P : Fin 16 → Fin 16 → Fin 32768 → ℝ) (A : Fin 32 → Fin 19 → ℝ)
  (b0 g0 e0 : Fin 32 → ℝ) (B : Fin 32 → Fin 32 → ℝ) (b1 g1 e1 : Fin 32 → ℝ)

/-- The first layer without its bias, of channel `o`. -/
def lin0 (o : Fin 32) (b : Fin 16) (n : Fin 32768) : ℝ :=
  ∑ k : Fin 3, A o ⟨k.val, by omega⟩ * X b k n + ∑ k : Fin 16, A o ⟨3 + k.val, by omega⟩ * P b k n
/-- The quantiser's scale. -/
def scale (o : Fin 32) : ℝ := 32767 / (16 * Real.sqrt (∑ k, A o k * A o k) + tiny)
theorem scale_den_pos (o : Fin 32) : 0 < 16 * Real.sqrt (∑ k, A o k * A o k) + tiny := by
  have h1 := Real.sqrt_nonneg (∑ k, A o k * A o k)
  have h2 := tiny_pos
  linarith
theorem scale_pos (o : Fin 32) : 0 < scale A o := div_pos (by norm_num) (scale_den_pos A o)
/-- A value scaled and clipped. -/
def clip (y s : ℝ) : ℝ := min 32767 (max (-32767) (y * s))
theorem clip_bounds (y s : ℝ) : -32767 ≤ clip y s ∧ clip y s ≤ 32767 :=
  ⟨le_min (by norm_num) (le_max_left _ _), min_le_left _ _⟩
/-- The code of the first layer. -/
def code (o : Fin 32) (b : Fin 16) (n : Fin 32768) : ℝ := trunc (clip (lin0 X P A o b n) (scale A o))
/-- The activations after the first layer. -/
def act (o : Fin 32) (b : Fin 16) (n : Fin 32768) : ℝ :=
  norm (code X P A o b n / scale A o + b0 o) (mean fun b n => lin0 X P A o b n + b0 o) (var fun b n => lin0 X P A o b n + b0 o) (g0 o) (e0 o)
/-- The second layer without its bias. -/
def lin1 (o : Fin 32) (b : Fin 16) (n : Fin 32768) : ℝ := ∑ k, B o k * act X P A b0 g0 e0 k b n
/-- The second layer's output. -/
def out (o : Fin 32) (b : Fin 16) (n : Fin 32768) : ℝ :=
  norm (lin1 X P A b0 g0 e0 B o b n + b1 o) (mean fun b n => lin1 X P A b0 g0 e0 B o b n + b1 o)
    (var fun b n => lin1 X P A b0 g0 e0 B o b n + b1 o) (g1 o) (e1 o)

/-- The factor and the term that the first phase's sums give. -/
def fac0 (o : Fin 32) : ℝ := gain (mean (fun b n => lin0 X P A o b n * lin0 X P A o b n) - mean (lin0 X P A o) * mean (lin0 X P A o)) (g0 o)
def fac1 (o : Fin 32) : ℝ := gain (mean (fun b n => lin1 X P A b0 g0 e0 B o b n * lin1 X P A b0 g0 e0 B o b n)
  - mean (lin1 X P A b0 g0 e0 B o) * mean (lin1 X P A b0 g0 e0 B o)) (g1 o)

/-- The activations as the kernel computes them from a code. -/
theorem act_eq (o : Fin 32) (b : Fin 16) (n : Fin 32768) : act X P A b0 g0 e0 o b n
    = max ((fac0 X P A g0 o * (1 / scale A o)) * code X P A o b n + (e0 o - fac0 X P A g0 o * mean (lin0 X P A o))) 0 := by
  unfold act fac0
  rw [mean_bias, var_bias, norm_code, var_eq]

/-- The output as one product and one sum of the second layer's value. -/
theorem out_eq (o : Fin 32) (b : Fin 16) (n : Fin 32768) : out X P A b0 g0 e0 B b1 g1 e1 o b n
    = max (fac1 X P A b0 g0 e0 B g1 o * lin1 X P A b0 g0 e0 B o b n + (e1 o - fac1 X P A b0 g0 e0 B g1 o * mean (lin1 X P A b0 g0 e0 B o))) 0 := by
  unfold out fac1
  rw [mean_bias, var_bias, norm_eq, var_eq]
end Net

end Cert.Reals

end
-- ==== Proof.V.Windows.lean ====
/-
  What the kernel's input windows hold: a block of `xyz` or `points` is a quarter of a batch element, and the weights
  and the affine terms are whole arrays that the program's first operations compute.
-/
module

public import proofs.«01_k».proof.Proof.KI.Carry
public import proofs.«01_k».proof.Proof.V.Reals
public import Idealize.ShloMosaic.Lib.Pipeline.ValueKit
public import Idealize.ShloMosaic.Lib.Claim

@[expose] public section

set_option maxRecDepth 16384

noncomputable section

namespace Cert.KernelIdeal.Windows

open Cert.KernelIdeal Cert.KernelIdeal.Gen Cert.Lift
open Idealize.ShloMosaic Idealize.ShloMosaic.TcCoe Idealize.SL.Sem
open Idealize.ShloMosaic.Pipeline (Dat)

variable (m : (ℓ : Loc nD τ sig) → Buf (Elt Ideal) ℓ) (c : Dev nD)

/-- The batch element of step `t`. -/
def batch (t : Fin cfg0.N) : Fin 16 := ⟨t.val, by have h := t.isLt; have e : cfg0.N = 16 := N_0; omega⟩
/-- The point at place `n` of quarter `k`. -/
def point (k : Fin 4) (n : Fin 8192) : Fin 32768 := ⟨k.val * 8192 + n.val, by omega⟩

theorem idx : ∀ t : Fin cfg0.N, win0_0.index t = ![t.val, 0, 0] ∧ win0_1.index t = ![t.val, 0, 1] ∧ win0_2.index t = ![t.val, 0, 2] ∧ win0_3.index t = ![t.val, 0, 3]
    ∧ win0_4.index t = ![t.val, 0, 0] ∧ win0_5.index t = ![t.val, 0, 1] ∧ win0_6.index t = ![t.val, 0, 2] ∧ win0_7.index t = ![t.val, 0, 3]
    ∧ win0_8.index t = ![0, 0] ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0] ∧ win0_18.index t = ![0, 0] :=
  (by decide +kernel : ∀ t : Fin grid0.N, _)

/-- The arguments as reals. -/
structure Data where
  /-- `xyz` -/
  X : Fin 16 → Fin 3 → Fin 32768 → ℝ
  /-- `points` -/
  P : Fin 16 → Fin 16 → Fin 32768 → ℝ
  /-- `W0` -/
  A : Fin 32 → Fin 19 → ℝ
  /-- `b0` -/
  b0 : Fin 32 → ℝ
  /-- `gamma0` -/
  g0 : Fin 32 → ℝ
  /-- `beta0` -/
  e0 : Fin 32 → ℝ
  /-- `W1` -/
  B : Fin 32 → Fin 32 → ℝ
  /-- `b1` -/
  b1 : Fin 32 → ℝ
  /-- `gamma1` -/
  g1 : Fin 32 → ℝ
  /-- `beta1` -/
  e1 : Fin 32 → ℝ

/-- The first layer of these arguments, without its bias. -/
abbrev Data.y (d : Data) : Fin 32 → Fin 16 → Fin 32768 → ℝ := Reals.lin0 d.X d.P d.A
/-- The second layer of these arguments, without its bias. -/
abbrev Data.z (d : Data) : Fin 32 → Fin 16 → Fin 32768 → ℝ := Reals.lin1 d.X d.P d.A d.b0 d.g0 d.e0 d.B

/-- Memory holds these reals in the ten arguments. -/
structure Holds (d : Data) : Prop where
  x : ∀ b k n, m ((c : Thread nD τ).loc main_arg0) (ix3 b k n) = (d.X b k n : EReal)
  p : ∀ b k n, m ((c : Thread nD τ).loc main_arg1) (ix3 b k n) = (d.P b k n : EReal)
  w0 : ∀ o k, m ((c : Thread nD τ).loc main_arg2) (ix2 o k) = (d.A o k : EReal)
  b0 : ∀ o, m ((c : Thread nD τ).loc main_arg3) (ix1 o) = (d.b0 o : EReal)
  g0 : ∀ o, m ((c : Thread nD τ).loc main_arg4) (ix1 o) = (d.g0 o : EReal)
  e0 : ∀ o, m ((c : Thread nD τ).loc main_arg5) (ix1 o) = (d.e0 o : EReal)
  w1 : ∀ o k, m ((c : Thread nD τ).loc main_arg6) (ix2 o k) = (d.B o k : EReal)
  b1 : ∀ o, m ((c : Thread nD τ).loc main_arg7) (ix1 o) = (d.b1 o : EReal)
  g1 : ∀ o, m ((c : Thread nD τ).loc main_arg8) (ix1 o) = (d.g1 o : EReal)
  e1 : ∀ o, m ((c : Thread nD τ).loc main_arg9) (ix1 o) = (d.e1 o : EReal)

/-! ## The blocks of the two large arguments -/

/-- Window 0: quarter 0 of step `t`'s batch element of `xyz`. -/
theorem blk0 (t : Fin cfg0.N) (k : Fin 3) (n : Fin 8192) :
    iblk m c 0 t (ix3 0 k n) = m ((c : Thread nD τ).loc main_arg0) (ix3 (batch t) k (point 0 n)) := by
  unfold batch point
  blk_point [iblk, V, idx t]
/-- Window 1: quarter 1 of step `t`'s batch element of `xyz`. -/
theorem blk1 (t : Fin cfg0.N) (k : Fin 3) (n : Fin 8192) :
    iblk m c 1 t (ix3 0 k n) = m ((c : Thread nD τ).loc main_arg0) (ix3 (batch t) k (point 1 n)) := by
  unfold batch point
  blk_point [iblk, V, idx t]
/-- Window 2: quarter 2 of step `t`'s batch element of `xyz`. -/
theorem blk2 (t : Fin cfg0.N) (k : Fin 3) (n : Fin 8192) :
    iblk m c 2 t (ix3 0 k n) = m ((c : Thread nD τ).loc main_arg0) (ix3 (batch t) k (point 2 n)) := by
  unfold batch point
  blk_point [iblk, V, idx t]
/-- Window 3: quarter 3 of step `t`'s batch element of `xyz`. -/
theorem blk3 (t : Fin cfg0.N) (k : Fin 3) (n : Fin 8192) :
    iblk m c 3 t (ix3 0 k n) = m ((c : Thread nD τ).loc main_arg0) (ix3 (batch t) k (point 3 n)) := by
  unfold batch point
  blk_point [iblk, V, idx t]
/-- Window 4: quarter 0 of step `t`'s batch element of `points`. -/
theorem blk4 (t : Fin cfg0.N) (k : Fin 16) (n : Fin 8192) :
    iblk m c 4 t (ix3 0 k n) = m ((c : Thread nD τ).loc main_arg1) (ix3 (batch t) k (point 0 n)) := by
  unfold batch point
  blk_point [iblk, V, idx t]
/-- Window 5: quarter 1 of step `t`'s batch element of `points`. -/
theorem blk5 (t : Fin cfg0.N) (k : Fin 16) (n : Fin 8192) :
    iblk m c 5 t (ix3 0 k n) = m ((c : Thread nD τ).loc main_arg1) (ix3 (batch t) k (point 1 n)) := by
  unfold batch point
  blk_point [iblk, V, idx t]
/-- Window 6: quarter 2 of step `t`'s batch element of `points`. -/
theorem blk6 (t : Fin cfg0.N) (k : Fin 16) (n : Fin 8192) :
    iblk m c 6 t (ix3 0 k n) = m ((c : Thread nD τ).loc main_arg1) (ix3 (batch t) k (point 2 n)) := by
  unfold batch point
  blk_point [iblk, V, idx t]
/-- Window 7: quarter 3 of step `t`'s batch element of `points`. -/
theorem blk7 (t : Fin cfg0.N) (k : Fin 16) (n : Fin 8192) :
    iblk m c 7 t (ix3 0 k n) = m ((c : Thread nD τ).loc main_arg1) (ix3 (batch t) k (point 3 n)) := by
  unfold batch point
  blk_point [iblk, V, idx t]

/-! ## The whole arrays -/

/-- The region finds what the operations before it leave. -/
theorem V_eq (b : Ref sig .tc) : V m c b = StableHlo.after hostOps0 (fun b => m (c, b)) (Proc.devRef .tc b) := by
  show StableHlo.after (List.flatten [hostOps0]) _ _ = _
  rw [List.flatten_cons, List.flatten_nil, List.append_nil]

/-- The other windows hold a whole array at every step. -/
theorem blk8 (t : Fin cfg0.N) : iblk m c 8 t = V m c main_v0 := by
  blk_ext! [iblk, idx t]
theorem blk9 (t : Fin cfg0.N) : iblk m c 9 t = V m c main_v1 := by
  blk_ext! [iblk, idx t]
theorem blk10 (t : Fin cfg0.N) : iblk m c 10 t = V m c main_v11 := by
  blk_ext! [iblk, idx t]
theorem blk11 (t : Fin cfg0.N) : iblk m c 11 t = V m c main_v13 := by
  blk_ext! [iblk, idx t]
theorem blk12 (t : Fin cfg0.N) : iblk m c 12 t = V m c main_v14 := by
  blk_ext! [iblk, idx t]
theorem blk13 (t : Fin cfg0.N) : iblk m c 13 t = V m c main_v15 := by
  blk_ext! [iblk, idx t]
theorem blk14 (t : Fin cfg0.N) : iblk m c 14 t = V m c main_arg6 := by
  blk_ext! [iblk, idx t]
theorem blk16 (t : Fin cfg0.N) : iblk m c 16 t = V m c main_v17 := by
  blk_ext! [iblk, idx t]
theorem blk17 (t : Fin cfg0.N) : iblk m c 17 t = V m c main_v18 := by
  blk_ext! [iblk, idx t]

section
variable {m c} {d : Data} (h : Holds m c d)
include h

/-- The weights of `xyz` and of `points`. -/
theorem w0x_real (o : Fin 32) (k : Fin 3) : V m c main_v0 (ix2 o k) = (d.A o ⟨k.val, by omega⟩ : EReal) := by
  rw [V_eq]
  entry_read
  pointwise
  exact h.w0 _ _
theorem w0p_real (o : Fin 32) (k : Fin 16) : V m c main_v1 (ix2 o k) = (d.A o ⟨3 + k.val, by omega⟩ : EReal) := by
  rw [V_eq]
  entry_read
  pointwise
  exact h.w0 _ _

/-- The quantiser's scale and its reciprocal. -/
theorem scale_real (o : Fin 32) : V m c main_v11 (ix2 o 0) = (Reals.scale d.A o : EReal) := by
  have hw : ∀ o k, m (c, Proc.tc.devRef main_arg2) (ix2 o k) = (d.A o k : EReal) := h.w0
  rw [V_eq]
  entry_read
  pointwise
  simp only [hw, ← EReal.coe_mul, sum_real, bits_hi, bits_sixteen, bits_tiny]
  rw [sqrt_real (Finset.sum_nonneg fun k _ => mul_self_nonneg _), ← EReal.coe_mul, ← EReal.coe_add,
    div_real _ (Reals.scale_den_pos d.A o).ne']
  rfl
theorem unscale_real (o : Fin 32) : V m c main_v13 (ix2 o 0) = ((1 / Reals.scale d.A o : ℝ) : EReal) := by
  have hw : ∀ o k, m (c, Proc.tc.devRef main_arg2) (ix2 o k) = (d.A o k : EReal) := h.w0
  rw [V_eq]
  entry_read
  pointwise
  simp only [hw, ← EReal.coe_mul, sum_real, bits_hi, bits_sixteen, bits_tiny, bits_one]
  rw [sqrt_real (Finset.sum_nonneg fun k _ => mul_self_nonneg _), ← EReal.coe_mul, ← EReal.coe_add,
    div_real _ (Reals.scale_den_pos d.A o).ne']
  exact div_real 1 (Reals.scale_pos d.A o).ne'

/-- The affine terms and the second layer's weights. -/
theorem g0_real (o : Fin 32) : V m c main_v14 (ix2 o 0) = (d.g0 o : EReal) := by
  rw [V_eq]
  entry_read
  pointwise
  exact h.g0 o
theorem e0_real (o : Fin 32) : V m c main_v15 (ix2 o 0) = (d.e0 o : EReal) := by
  rw [V_eq]
  entry_read
  pointwise
  exact h.e0 o
theorem g1_real (o : Fin 32) : V m c main_v17 (ix2 o 0) = (d.g1 o : EReal) := by
  rw [V_eq]
  entry_read
  pointwise
  exact h.g1 o
theorem e1_real (o : Fin 32) : V m c main_v18 (ix2 o 0) = (d.e1 o : EReal) := by
  rw [V_eq]
  entry_read
  pointwise
  exact h.e1 o
theorem w1_real (o k : Fin 32) : V m c main_arg6 (ix2 o k) = (d.B o k : EReal) := by
  rw [V_main_arg6]
  exact h.w1 o k
end

end Cert.KernelIdeal.Windows

end
-- ==== Proof.V.Folds.lean ====
/-
  The kernel's lane sums: a block is halved again and again until 128 lanes are left, and the sum over the lanes is the
  sum over the block. All of it holds in the extended reals, whatever the values.
-/
module

public import proofs.«01_k».proof.Proof.KI.Body
public import proofs.«01_k».proof.Proof.V.Lift

@[expose] public section

set_option maxRecDepth 16384

noncomputable section

namespace Cert.KernelIdeal.Folds

open Cert.KernelIdeal Cert.KernelIdeal.Gen
open Idealize.ShloMosaic Idealize.ShloMosaic.TcCoe Idealize.SL.Sem

/-- A row's sum. -/
def rowSum {N : ℕ} (v : FVec Ideal ⟨2, ![32, N]⟩ .f32) (o : Fin 32) : EReal := ∑ l : Fin N, v (ix2 o l)

/-- Adding the right half of every row to the left half keeps the row's sum. -/
theorem half_sum {N M : ℕ} (hM : M = N + N) (v : FVec Ideal ⟨2, ![32, M]⟩ .f32)
    (h0 : Shape.Slices ⟨2, ![32, M]⟩ ![0, 0] ⟨2, ![32, N]⟩) (h1 : Shape.Slices ⟨2, ![32, M]⟩ ![0, N] ⟨2, ![32, N]⟩) (o : Fin 32) :
    rowSum (addf (extractStridedSlice ⟨2, ![32, N]⟩ ![0, 0] v h0) (extractStridedSlice ⟨2, ![32, N]⟩ ![0, N] v h1)) o = rowSum v o := by
  subst hM
  unfold rowSum
  rw [Fin.sum_univ_add, ← Finset.sum_add_distrib]
  refine Finset.sum_congr rfl fun l _ => ?_
  show v _ + v _ = _
  refine congrArg₂ (· + ·) (congrArg v ?_) (congrArg v ?_)
  · funext a
    match a with
    | 0 => exact Fin.ext (Nat.zero_add _)
    | 1 => exact Fin.ext (Nat.zero_add _)
  · funext a
    match a with
    | 0 => exact Fin.ext (Nat.zero_add _)
    | 1 => exact Fin.ext rfl

/-- The seven halvings. -/
def h16384 (v : FVec Ideal S32x16384 .f32) : FVec Ideal S32x8192 .f32 :=
  addf (extractStridedSlice S32x8192 ![0, 0] v slices_S32x16384_o0_0_S32x8192) (extractStridedSlice S32x8192 ![0, 8192] v slices_S32x16384_o0_8192_S32x8192)
def h8192 (v : FVec Ideal S32x8192 .f32) : FVec Ideal S32x4096 .f32 :=
  addf (extractStridedSlice S32x4096 ![0, 0] v slices_S32x8192_o0_0_S32x4096) (extractStridedSlice S32x4096 ![0, 4096] v slices_S32x8192_o0_4096_S32x4096)
def h4096 (v : FVec Ideal S32x4096 .f32) : FVec Ideal S32x2048 .f32 :=
  addf (extractStridedSlice S32x2048 ![0, 0] v slices_S32x4096_o0_0_S32x2048) (extractStridedSlice S32x2048 ![0, 2048] v slices_S32x4096_o0_2048_S32x2048)
def h2048 (v : FVec Ideal S32x2048 .f32) : FVec Ideal S32x1024 .f32 :=
  addf (extractStridedSlice S32x1024 ![0, 0] v slices_S32x2048_o0_0_S32x1024) (extractStridedSlice S32x1024 ![0, 1024] v slices_S32x2048_o0_1024_S32x1024)
def h1024 (v : FVec Ideal S32x1024 .f32) : FVec Ideal S32x512 .f32 :=
  addf (extractStridedSlice S32x512 ![0, 0] v slices_S32x1024_o0_0_S32x512) (extractStridedSlice S32x512 ![0, 512] v slices_S32x1024_o0_512_S32x512)
def h512 (v : FVec Ideal S32x512 .f32) : FVec Ideal S32x256 .f32 :=
  addf (extractStridedSlice S32x256 ![0, 0] v slices_S32x512_o0_0_S32x256) (extractStridedSlice S32x256 ![0, 256] v slices_S32x512_o0_256_S32x256)
def h256 (v : FVec Ideal S32x256 .f32) : FVec Ideal S32x128 .f32 :=
  addf (extractStridedSlice S32x128 ![0, 0] v slices_S32x256_o0_0_S32x128) (extractStridedSlice S32x128 ![0, 128] v slices_S32x256_o0_128_S32x128)

/-- From 8192 lanes to 128, and from 16384. -/
def fold8192 (v : FVec Ideal S32x8192 .f32) : FVec Ideal S32x128 .f32 := h256 (h512 (h1024 (h2048 (h4096 (h8192 v)))))
def fold16384 (v : FVec Ideal S32x16384 .f32) : FVec Ideal S32x128 .f32 := fold8192 (h16384 v)

theorem sum_fold8192 (v : FVec Ideal S32x8192 .f32) (o : Fin 32) : rowSum (fold8192 v) o = rowSum v o :=
  (half_sum rfl _ _ _ o).trans ((half_sum rfl _ _ _ o).trans ((half_sum rfl _ _ _ o).trans ((half_sum rfl _ _ _ o).trans
    ((half_sum rfl _ _ _ o).trans (half_sum rfl _ _ _ o)))))
theorem sum_fold16384 (v : FVec Ideal S32x16384 .f32) (o : Fin 32) : rowSum (fold16384 v) o = rowSum v o :=
  (sum_fold8192 _ o).trans (half_sum rfl _ _ _ o)

theorem rowSum_add {N : ℕ} (u v : FVec Ideal ⟨2, ![32, N]⟩ .f32) (o : Fin 32) : rowSum (addf u v) o = rowSum u o + rowSum v o :=
  Finset.sum_add_distrib

/-! ## The payloads that fold -/

theorem pay47_eq (y : FVec Ideal S32x8192 .f32) (s : Vec Ideal S32x128 .f32) : k0_pay47 y s = addf s (fold8192 y) := by
  exact shapeCast_self (addf (F := Ideal) (s := S32x128) s (fold8192 y)) shapeCasts_S32x128_S32x128
theorem pay48_eq (y : FVec Ideal S32x8192 .f32) (s : Vec Ideal S32x128 .f32) : k0_pay48 y s = addf s (fold8192 (mulf y y)) := by
  exact shapeCast_self (addf (F := Ideal) (s := S32x128) s (fold8192 (mulf y y))) shapeCasts_S32x128_S32x128
theorem pay8_eq (B : FVec Ideal S32x16384 .f32) (s : Vec Ideal S32x128 .f32) (c0 aq : FVec Ideal S32x1 .f32)
    (r : Vec Ideal S1x32x16384 .i16) (W : Vec Ideal S32x32 .f32) :
    k0_pay8 B s (k0_pay6 c0 aq r W) (k0_pay7 c0 aq r W) = addf s (addf (fold16384 (k0_pay3 c0 aq r W)) (fold16384 B)) := by
  exact shapeCast_self (addf (F := Ideal) (s := S32x128) s (addf (fold16384 (k0_pay3 c0 aq r W)) (fold16384 B))) shapeCasts_S32x128_S32x128
theorem pay12_eq (A B : FVec Ideal S32x16384 .f32) (s : Vec Ideal S32x128 .f32) :
    k0_pay12 B s (k0_pay10 A) (k0_pay11 A) = addf s (addf (fold16384 (mulf A A)) (fold16384 (mulf B B))) := by
  exact shapeCast_self (addf (F := Ideal) (s := S32x128) s (addf (fold16384 (mulf A A)) (fold16384 (mulf B B)))) shapeCasts_S32x128_S32x128

/-- A quarter's values go into the lane sums, and their squares into the lane sums of squares. -/
theorem lanes47 (y : FVec Ideal S32x8192 .f32) (s : Vec Ideal S32x128 .f32) (o : Fin 32) :
    rowSum (k0_pay47 y s) o = rowSum s o + rowSum y o := by
  rw [pay47_eq]; exact (rowSum_add _ _ o).trans (congrArg _ (sum_fold8192 _ o))
theorem lanes48 (y : FVec Ideal S32x8192 .f32) (s : Vec Ideal S32x128 .f32) (o : Fin 32) :
    rowSum (k0_pay48 y s) o = rowSum s o + rowSum (mulf y y) o := by
  rw [pay48_eq]; exact (rowSum_add _ _ o).trans (congrArg _ (sum_fold8192 _ o))
/-- The same of a trip's two halves. -/
theorem lanes8 (B : FVec Ideal S32x16384 .f32) (s : Vec Ideal S32x128 .f32) (c0 aq : FVec Ideal S32x1 .f32)
    (r : Vec Ideal S1x32x16384 .i16) (W : Vec Ideal S32x32 .f32) (o : Fin 32) :
    rowSum (k0_pay8 B s (k0_pay6 c0 aq r W) (k0_pay7 c0 aq r W)) o = rowSum s o + (rowSum (k0_pay3 c0 aq r W) o + rowSum B o) := by
  rw [pay8_eq]
  exact (rowSum_add _ _ o).trans (congrArg _ ((rowSum_add _ _ o).trans (congrArg₂ _ (sum_fold16384 _ o) (sum_fold16384 _ o))))
theorem lanes12 (A B : FVec Ideal S32x16384 .f32) (s : Vec Ideal S32x128 .f32) (o : Fin 32) :
    rowSum (k0_pay12 B s (k0_pay10 A) (k0_pay11 A)) o = rowSum s o + (rowSum (mulf A A) o + rowSum (mulf B B) o) := by
  rw [pay12_eq]
  exact (rowSum_add _ _ o).trans (congrArg _ ((rowSum_add _ _ o).trans (congrArg₂ _ (sum_fold16384 _ o) (sum_fold16384 _ o))))

end Cert.KernelIdeal.Folds

end
-- ==== Proof.V.Stages.lean ====
/-
  The kernel's payloads at real arguments.
-/
module

public import proofs.«01_k».proof.Proof.V.Folds
public import proofs.«01_k».proof.Proof.V.Reals

@[expose] public section

set_option maxRecDepth 16384

noncomputable section

namespace Cert.KernelIdeal.Folds

open Cert.KernelIdeal Cert.KernelIdeal.Gen Cert.Lift
open Idealize.ShloMosaic Idealize.ShloMosaic.TcCoe Idealize.SL.Sem

/-- The sum of a row of reals. -/
theorem rowSum_real {N : ℕ} {v : FVec Ideal ⟨2, ![32, N]⟩ .f32} {o : Fin 32} {f : Fin N → ℝ} (h : ∀ l, v (ix2 o l) = (f l : EReal)) :
    rowSum v o = ((∑ l, f l : ℝ) : EReal) := by
  unfold rowSum
  simp only [h, sum_real]

/-- The first layer on a quarter. -/
theorem pay33_real {wx : Vec Ideal S32x3 .f32} {x : Vec Ideal S1x3x8192 .f32} {wp : Vec Ideal S32x16 .f32} {p : Vec Ideal S1x16x8192 .f32}
    {o : Fin 32} {n : Fin 8192} {a : Fin 3 → ℝ} {b : Fin 3 → ℝ} {d : Fin 16 → ℝ} {e : Fin 16 → ℝ}
    (hwx : ∀ k, wx (ix2 o k) = (a k : EReal)) (hx : ∀ k, x (ix3 0 k n) = (b k : EReal))
    (hwp : ∀ k, wp (ix2 o k) = (d k : EReal)) (hp : ∀ k, p (ix3 0 k n) = (e k : EReal)) :
    k0_pay33 (F := Ideal) wx x wp p (ix2 o n) = ((∑ k, a k * b k + ∑ k, d k * e k : ℝ) : EReal) := by
  pointwise [k0_pay33]
  simp only [hwx, hx, hwp, hp, ← EReal.coe_mul, sum_real, ← EReal.coe_add]

/-- A code, read back. -/
theorem pay36_real {y : Vec Ideal S32x8192 .f32} {s : Vec Ideal S32x1 .f32} {o : Fin 32} {n : Fin 8192} {u v : ℝ}
    (hy : y (ix2 o n) = (u : EReal)) (hs : s (ix2 o 0) = (v : EReal)) :
    FloatOps.sitofp (F := Ideal) .f32 (k0_pay36 (F := Ideal) y s (ix3 0 o n)) = ((trunc (Reals.clip u v) : ℝ) : EReal) := by
  pointwise [k0_pay36]
  rw [hy, hs, bits_hi, bits_lo, ← EReal.coe_mul, max_real, min_real]
  exact read_16 (Reals.clip_bounds u v).1 (Reals.clip_bounds u v).2

/-- The second layer on a row of codes. -/
theorem pay3_real {c0 aq : FVec Ideal S32x1 .f32} {C : Vec Ideal S1x32x16384 .i16} {W : Vec Ideal S32x32 .f32} {o : Fin 32} {n : Fin 16384}
    {rc ra code w : Fin 32 → ℝ} (hc : ∀ k, c0 (ix2 k 0) = (rc k : EReal)) (ha : ∀ k, aq (ix2 k 0) = (ra k : EReal))
    (hC : ∀ k, FloatOps.sitofp (F := Ideal) .f32 (C (ix3 0 k n)) = (code k : EReal)) (hW : ∀ k, W (ix2 o k) = (w k : EReal)) :
    k0_pay3 (F := Ideal) c0 aq C W (ix2 o n) = ((∑ k, w k * max (ra k * code k + rc k) 0 : ℝ) : EReal) := by
  pointwise [k0_pay3]
  simp only [hc, ha, hC, hW, ← EReal.coe_mul, ← EReal.coe_add, ← EReal.coe_zero, max_real, sum_real]

/-- The mean from the lane sums. -/
theorem pay16_real {S : Vec Ideal S32x128 .f32} {o : Fin 32} {s : ℝ} (hS : rowSum S o = (s : EReal)) :
    k0_pay16 (F := Ideal) S (ix2 o 0) = ((s / 524288 : ℝ) : EReal) := by
  pointwise [k0_pay16]
  show Ideal.div (rowSum S o) _ = _
  rw [hS, bits_count, div_real _ (by norm_num)]

/-- The batch norm's factor from the lane sums and those of the squares. -/
theorem pay17_real {S Q : Vec Ideal S32x128 .f32} {g : Vec Ideal S32x1 .f32} {o : Fin 32} {s q rg : ℝ}
    (hS : rowSum S o = (s : EReal)) (hQ : rowSum Q o = (q : EReal)) (hg : g (ix2 o 0) = (rg : EReal))
    (h0 : 0 ≤ q / 524288 - s / 524288 * (s / 524288)) :
    k0_pay17 (F := Ideal) S Q g (ix2 o 0) = ((Reals.gain (q / 524288 - s / 524288 * (s / 524288)) rg : ℝ) : EReal) := by
  pointwise [k0_pay17]
  show _ * Ideal.rsqrt (Ideal.div (rowSum Q o) _ - _ + _) = _
  rw [pay16_real hS, hQ, hg, bits_count, bits_eps, div_real _ (by norm_num), ← EReal.coe_mul, ← EReal.coe_sub, ← EReal.coe_add,
    rsqrt_real (add_pos_of_nonneg_of_pos h0 eps_pos), ← EReal.coe_mul]
  rfl

theorem pay18_real {S Q : Vec Ideal S32x128 .f32} {g e : Vec Ideal S32x1 .f32} {o : Fin 32} {mu a re : ℝ}
    (hm : k0_pay16 (F := Ideal) S (ix2 o 0) = (mu : EReal)) (ha : k0_pay17 (F := Ideal) S Q g (ix2 o 0) = (a : EReal))
    (he : e (ix2 o 0) = (re : EReal)) : k0_pay18 (F := Ideal) S Q g e (ix2 o 0) = ((re - a * mu : ℝ) : EReal) := by
  pointwise [k0_pay18]
  rw [hm, ha, he, ← EReal.coe_mul, ← EReal.coe_sub]

theorem pay19_real {S Q : Vec Ideal S32x128 .f32} {g r : Vec Ideal S32x1 .f32} {o : Fin 32} {a rr : ℝ}
    (ha : k0_pay17 (F := Ideal) S Q g (ix2 o 0) = (a : EReal)) (hr : r (ix2 o 0) = (rr : EReal)) :
    k0_pay19 (F := Ideal) S Q g r (ix2 o 0) = ((a * rr : ℝ) : EReal) := by
  pointwise [k0_pay19]
  rw [ha, hr, ← EReal.coe_mul]

/-- The second layer's statistics are computed as the first layer's. -/
theorem pay28_eq (S Q : Vec Ideal S32x128 .f32) (g : Vec Ideal S32x1 .f32) : k0_pay28 (F := Ideal) S Q g = k0_pay17 S Q g := rfl
theorem pay29_eq (S Q : Vec Ideal S32x128 .f32) (g e : Vec Ideal S32x1 .f32) : k0_pay29 (F := Ideal) S Q g e = k0_pay18 S Q g e := rfl

/-- The last step: the factor's sign picks the maximum or the minimum. -/
theorem pay2_real {S Q : Vec Ideal S32x128 .f32} {g e : Vec Ideal S32x1 .f32} {mx mn : Vec Ideal S32x16 .f32} {o : Fin 32} {b : Fin 16}
    {a d x n : ℝ} (ha : k0_pay28 (F := Ideal) S Q g (ix2 o 0) = (a : EReal)) (hd : k0_pay29 (F := Ideal) S Q g e (ix2 o 0) = (d : EReal))
    (hx : mx (ix2 o b) = (x : EReal)) (hn : mn (ix2 o b) = (n : EReal)) :
    k0_pay2 (F := Ideal) (k0_pay28 S Q g) (k0_pay29 S Q g e) (k0_pay30 S Q g) mx mn (ix2 o b)
      = ((max (a * (if 0 ≤ a then x else n) + d) 0 : ℝ) : EReal) := by
  have hk : k0_pay30 (F := Ideal) S Q g (ix2 o 0) = BitVec.ofBool (decide ((0 : EReal) ≤ k0_pay28 (F := Ideal) S Q g (ix2 o 0))) := by
    pointwise [k0_pay30]
  pointwise [k0_pay2]
  rw [hk, ha, hd, hx, hn]
  by_cases h : 0 ≤ a
  · rw [if_pos h, decide_eq_true (EReal.coe_nonneg.2 h)]
    show max ((a : EReal) * (x : EReal) + (d : EReal)) 0 = _
    rw [← EReal.coe_mul, ← EReal.coe_add, ← EReal.coe_zero, max_real]
  · rw [if_neg h, decide_eq_false (fun h' => h (EReal.coe_nonneg.1 h'))]
    show max ((a : EReal) * (n : EReal) + (d : EReal)) 0 = _
    rw [← EReal.coe_mul, ← EReal.coe_add, ← EReal.coe_zero, max_real]

/-- A lane's number meets the trip's number exactly at the trip's own lane. -/
theorem lane_eq (k : Fin k0_t1_loop.trips) (o : Fin 32) (b : Fin 16) :
    k0_pay14 Run.lanes (Scf.iv 0#32 1#32 k) (ix2 o b) = BitVec.ofBool (decide (b.val = k.val)) := by
  pointwise [k0_pay14, Run.lanes]
  have h : ∀ (b : Fin 16) (k : Fin k0_t1_loop.trips), IntOp.cmpi CmpIPredicate.eq (BitVec.ofNat 32 b.val) (Scf.iv 0#32 1#32 k) = BitVec.ofBool (decide (b.val = k.val)) := by
    decide +kernel
  exact h b k

/-- A trip's effect on the maxima: the trip's lane takes the greatest value of the two halves. -/
theorem maxima (k : Fin k0_t1_loop.trips) (A B : FVec Ideal S32x16384 .f32) (x : Vec Ideal S32x16 .f32) (o : Fin 32) (b : Fin 16) :
    k0_pay25 (k0_pay15 (F := Ideal) Run.lanes (Scf.iv 0#32 1#32 k) A B x x) (ix2 o b)
      = if b.val = k.val then max (x (ix2 o b)) (max (Finset.fold max (⊥ : EReal) (fun n => A (ix2 o n)) Finset.univ)
          (Finset.fold max (⊥ : EReal) (fun n => B (ix2 o n)) Finset.univ)) else x (ix2 o b) := by
  pointwise [k0_pay15, k0_pay25]
  rw [lane_eq, bits_bot]
  by_cases h : b.val = k.val
  · rw [if_pos h, decide_eq_true h]; rfl
  · rw [if_neg h, decide_eq_false h]; rfl

/-- A trip's effect on the minima. -/
theorem minima (k : Fin k0_t1_loop.trips) (A B : FVec Ideal S32x16384 .f32) (x : Vec Ideal S32x16 .f32) (o : Fin 32) (b : Fin 16) :
    k0_pay26 (F := Ideal) (k0_pay13 A B) (k0_pay14 Run.lanes (Scf.iv 0#32 1#32 k)) x x (ix2 o b)
      = if b.val = k.val then min (x (ix2 o b)) (min (Finset.fold min (⊤ : EReal) (fun n => A (ix2 o n)) Finset.univ)
          (Finset.fold min (⊤ : EReal) (fun n => B (ix2 o n)) Finset.univ)) else x (ix2 o b) := by
  have h13 : k0_pay13 (F := Ideal) A B (ix2 o 0) = min (Finset.fold min (⊤ : EReal) (fun n => A (ix2 o n)) Finset.univ)
      (Finset.fold min (⊤ : EReal) (fun n => B (ix2 o n)) Finset.univ) := by
    pointwise [k0_pay13]
    rw [bits_top]
  pointwise [k0_pay26]
  rw [lane_eq, h13]
  by_cases h : b.val = k.val
  · rw [if_pos h, decide_eq_true h]; rfl
  · rw [if_neg h, decide_eq_false h]; rfl

/-- What the accumulators start from. -/
theorem start_mx (o : Fin 32) (b : Fin 16) : k0_pay23 (k0_pay22 (F := Ideal)) (ix2 o b) = (⊥ : EReal) := by
  pointwise [k0_pay22, k0_pay23]
  exact bits_bot
theorem start_mn (o : Fin 32) (b : Fin 16) : k0_pay24 (F := Ideal) (ix2 o b) = (⊤ : EReal) := by
  pointwise [k0_pay24]
  exact bits_top
theorem start_20 (o : Fin 32) : rowSum (k0_pay20 (F := Ideal)) o = ((0 : ℝ) : EReal) := by
  refine (rowSum_real (f := fun _ => 0) fun l => ?_).trans (by simp)
  pointwise [k0_pay20]
  exact EReal.coe_zero.symm
theorem start_21 (o : Fin 32) : rowSum (k0_pay21 (F := Ideal)) o = ((0 : ℝ) : EReal) := by
  refine (rowSum_real (f := fun _ => 0) fun l => ?_).trans (by simp)
  pointwise [k0_pay21]
  exact EReal.coe_zero.symm
theorem start_31 (o : Fin 32) : rowSum (k0_pay31 (F := Ideal)) o = ((0 : ℝ) : EReal) := by
  refine (rowSum_real (f := fun _ => 0) fun l => ?_).trans (by simp)
  pointwise [k0_pay31]
  exact EReal.coe_zero.symm
theorem start_32 (o : Fin 32) : rowSum (k0_pay32 (F := Ideal)) o = ((0 : ℝ) : EReal) := by
  refine (rowSum_real (f := fun _ => 0) fun l => ?_).trans (by simp)
  pointwise [k0_pay32]
  exact EReal.coe_zero.symm

end Cert.KernelIdeal.Folds

end
-- ==== Proof.V.PhaseOne.lean ====
/-
  The kernel's first phase at real arguments: the first layer on every quarter, its sums over the batch and the points,
  and the codes that the second phase reads.
-/
module

public import proofs.«01_k».proof.Proof.V.Windows
public import proofs.«01_k».proof.Proof.V.Stages

@[expose] public section

set_option maxRecDepth 16384

noncomputable section

namespace Cert.KernelIdeal.Phases

open Cert.KernelIdeal Cert.KernelIdeal.Gen Cert.KernelIdeal.Folds Cert.KernelIdeal.Windows Cert.Lift
open Idealize.ShloMosaic Idealize.ShloMosaic.TcCoe Idealize.SL.Sem

/-- The sum over batch element `i`, and zero beyond the last one. -/
def batchSum (f : Fin 16 → Fin 32768 → ℝ) (i : ℕ) : ℝ := if h : i < 16 then ∑ n, f ⟨i, h⟩ n else 0

/-- The sixteen of them give the sum over batch and points. -/
theorem sum_batches (f : Fin 16 → Fin 32768 → ℝ) : ∑ i ∈ Finset.range 16, batchSum f i = ∑ b, ∑ n, f b n := by
  rw [Finset.sum_range]
  exact Finset.sum_congr rfl fun b _ => dif_pos b.isLt

/-- A sum over all points, quarter by quarter. -/
theorem sum_quarters (f : Fin 32768 → ℝ) :
    ∑ n, f (point 0 n) + ∑ n, f (point 1 n) + ∑ n, f (point 2 n) + ∑ n, f (point 3 n) = ∑ n, f n := by
  rw [Fin.sum_univ_tiles 4 8192 rfl f, Fin.sum_univ_four]
  rfl

variable {m : (ℓ : Loc nD τ sig) → Buf (Elt Ideal) ℓ} {c : Dev nD} {d : Data} (h : Holds m c d)
include h

/-- A quarter holds the first layer. -/
theorem quarter_real (t : Fin cfg0.N) (k : Fin 4) (o : Fin 32) (n : Fin 8192) :
    Run.quarter m c t k (ix2 o n) = (d.y o (batch t) (point k n) : EReal) := by
  have hx : ∀ k, iblk m c 8 t (ix2 o k) = (d.A o ⟨k.val, by omega⟩ : EReal) := fun k => by rw [blk8]; exact w0x_real h o k
  have hp : ∀ k, iblk m c 9 t (ix2 o k) = (d.A o ⟨3 + k.val, by omega⟩ : EReal) := fun k => by rw [blk9]; exact w0p_real h o k
  match k with
  | 0 => exact pay33_real hx (fun k => (blk0 m c t k n).trans (h.x _ _ _)) hp (fun k => (blk4 m c t k n).trans (h.p _ _ _))
  | 1 => exact pay33_real hx (fun k => (blk1 m c t k n).trans (h.x _ _ _)) hp (fun k => (blk5 m c t k n).trans (h.p _ _ _))
  | 2 => exact pay33_real hx (fun k => (blk2 m c t k n).trans (h.x _ _ _)) hp (fun k => (blk6 m c t k n).trans (h.p _ _ _))
  | 3 => exact pay33_real hx (fun k => (blk3 m c t k n).trans (h.x _ _ _)) hp (fun k => (blk7 m c t k n).trans (h.p _ _ _))

theorem quarter_sum (t : Fin cfg0.N) (k : Fin 4) (o : Fin 32) :
    rowSum (N := 8192) (Run.quarter m c t k) o = ((∑ n, d.y o (batch t) (point k n) : ℝ) : EReal) :=
  rowSum_real fun n => quarter_real h t k o n
theorem quarter_square (t : Fin cfg0.N) (k : Fin 4) (o : Fin 32) :
    rowSum (N := 8192) (mulf (Run.quarter m c t k) (Run.quarter m c t k)) o
      = ((∑ n, d.y o (batch t) (point k n) * d.y o (batch t) (point k n) : ℝ) : EReal) :=
  rowSum_real fun n => by
    show Run.quarter m c t k (ix2 o n) * Run.quarter m c t k (ix2 o n) = _
    rw [quarter_real h, EReal.coe_mul]

/-- The lane sums before step `n` add up the first `n` batch elements. -/
theorem sums_real (o : Fin 32) : ∀ n, n ≤ 16 → rowSum (N := 128) (Run.sums m c n) o = ((∑ i ∈ Finset.range n, batchSum (d.y o) i : ℝ) : EReal)
  | 0, _ => start_31 o
  | n + 1, hn => by
    have hN : n < cfg0.N := by have e : cfg0.N = 16 := N_0; omega
    have hb : batchSum (d.y o) n = ∑ k, d.y o (batch ⟨n, hN⟩) k := dif_pos (show n < 16 by omega)
    rw [Run.sums, dif_pos hN, lanes47, lanes47, lanes47, lanes47, sums_real o n (by omega)]
    simp only [quarter_sum h]
    rw [Finset.sum_range_succ, hb, ← sum_quarters]
    simp only [← EReal.coe_add, add_assoc]
theorem squares_real (o : Fin 32) : ∀ n, n ≤ 16 →
    rowSum (N := 128) (Run.squares m c n) o = ((∑ i ∈ Finset.range n, batchSum (fun b k => d.y o b k * d.y o b k) i : ℝ) : EReal)
  | 0, _ => start_32 o
  | n + 1, hn => by
    have hN : n < cfg0.N := by have e : cfg0.N = 16 := N_0; omega
    have hb : batchSum (fun b k => d.y o b k * d.y o b k) n = ∑ k, d.y o (batch ⟨n, hN⟩) k * d.y o (batch ⟨n, hN⟩) k :=
      dif_pos (show n < 16 by omega)
    rw [Run.squares, dif_pos hN, lanes48, lanes48, lanes48, lanes48, squares_real o n (by omega)]
    simp only [quarter_square h]
    rw [Finset.sum_range_succ, hb, ← sum_quarters fun k => d.y o (batch ⟨n, hN⟩) k * d.y o (batch ⟨n, hN⟩) k]
    simp only [← EReal.coe_add, add_assoc]

/-- A carried code, read back: row `2b` holds the first half of batch element `b`, row `2b + 1` the second. -/
theorem codes_real (b : Fin 16) (s : Fin 2) (o : Fin 32) (n : Fin 16384) (r : Fin 32) (hr : r.val = 2 * b.val + s.val) (k : Fin 32768)
    (hk : k.val = s.val * 16384 + n.val) :
    FloatOps.sitofp (F := Ideal) .f32 (Run.codes m c (ix3 r o n)) = (Reals.code d.X d.P d.A o b k : EReal) := by
  have hN : cfg0.N = 16 := N_0
  have ht : r.val / 2 < cfg0.N := by omega
  have hq : 2 * (r.val % 2) + n.val / 8192 < 4 := by omega
  show FloatOps.sitofp (F := Ideal) .f32 (Run.quarterCodes m c ⟨r.val / 2, ht⟩ ⟨2 * (r.val % 2) + n.val / 8192, hq⟩
    (ValueIdx.ix3 0 o ⟨n.val % 8192, Nat.mod_lt _ (by decide)⟩)) = _
  rw [← ix3_eq_valueIdx]
  have hs : iblk m c 10 ⟨r.val / 2, ht⟩ (ix2 o 0) = (Reals.scale d.A o : EReal) := by rw [blk10]; exact scale_real h o
  refine (pay36_real (quarter_real h _ _ o _) hs).trans ?_
  have eb : batch ⟨r.val / 2, ht⟩ = b := Fin.ext (show r.val / 2 = b.val by omega)
  have ek : point ⟨2 * (r.val % 2) + n.val / 8192, hq⟩ ⟨n.val % 8192, Nat.mod_lt _ (by decide)⟩ = k :=
    Fin.ext (show (2 * (r.val % 2) + n.val / 8192) * 8192 + n.val % 8192 = k.val by omega)
  rw [eb, ek]
  rfl

end Cert.KernelIdeal.Phases

end
-- ==== Proof.V.PhaseTwo.lean ====
/-
  The kernel's second phase at real arguments: the two affine columns, the second layer on the rows of codes, the four
  accumulators trip by trip, and the stored block.
-/
module

public import proofs.«01_k».proof.Proof.V.PhaseOne

@[expose] public section

set_option maxRecDepth 16384

noncomputable section

namespace Cert.KernelIdeal.Phases

open Cert.KernelIdeal Cert.KernelIdeal.Gen Cert.KernelIdeal.Folds Cert.KernelIdeal.Windows Cert.Lift
open Idealize.ShloMosaic Idealize.ShloMosaic.TcCoe Idealize.SL.Sem

/-! ## Where the second layer is greatest and least -/

theorem exists_top (d : Data) (o : Fin 32) (b : Fin 16) : ∃ k, ∀ n, d.z o b n ≤ d.z o b k := Finite.exists_max (d.z o b)
theorem exists_low (d : Data) (o : Fin 32) (b : Fin 16) : ∃ k, ∀ n, d.z o b k ≤ d.z o b n := Finite.exists_min (d.z o b)
/-- A point where the second layer is greatest, and one where it is least. -/
def top (d : Data) (o : Fin 32) (b : Fin 16) : Fin 32768 := (exists_top d o b).choose
def low (d : Data) (o : Fin 32) (b : Fin 16) : Fin 32768 := (exists_low d o b).choose
theorem le_top (d : Data) (o : Fin 32) (b : Fin 16) (n : Fin 32768) : d.z o b n ≤ d.z o b (top d o b) := (exists_top d o b).choose_spec n
theorem low_le (d : Data) (o : Fin 32) (b : Fin 16) (n : Fin 32768) : d.z o b (low d o b) ≤ d.z o b n := (exists_low d o b).choose_spec n

/-- A point in the first half of a batch element, and one in the second. -/
def left (n : Fin 16384) : Fin 32768 := ⟨n.val, by omega⟩
def right (n : Fin 16384) : Fin 32768 := ⟨16384 + n.val, by omega⟩
/-- Every point lies in one of the halves. -/
theorem left_or_right (k : Fin 32768) : (∃ n, left n = k) ∨ ∃ n, right n = k := by
  by_cases hk : k.val < 16384
  · exact .inl ⟨⟨k.val, hk⟩, rfl⟩
  · exact .inr ⟨⟨k.val - 16384, by omega⟩, Fin.ext (show 16384 + (k.val - 16384) = k.val by omega)⟩
theorem sum_halves (f : Fin 32768 → ℝ) : ∑ n, f (left n) + ∑ n, f (right n) = ∑ n, f n :=
  (Fin.sum_univ_add (a := 16384) (b := 16384) f).symm

/-! ## The rows a trip loads -/

theorem off3 : ∀ k : Fin k0_t1_loop.trips, k0_off3 k = ![2 * k.val, 0, 0] := by decide +kernel
theorem off4 : ∀ k : Fin k0_t1_loop.trips, k0_off4 k = ![2 * k.val + 1, 0, 0] := by decide +kernel
theorem trips_eq : k0_t1_loop.trips = 16 := by decide +kernel

theorem rowA_apply (C : Vec Ideal S32x32x16384 .i16) (k : Fin k0_t1_loop.trips) (o : Fin 32) (n : Fin 16384) :
    Run.rowA C k (ix3 0 o n) = C (ix3 ⟨2 * k.val, by have := k.isLt; have := trips_eq; omega⟩ o n) := by
  refine congrArg C (funext fun a => Fin.ext ?_)
  refine (congrArg (· + 1 * ((ix3 (0 : Fin 1) o n) a).val) (congrFun (off3 k) a)).trans ?_
  match a with
  | 0 => rfl
  | 1 => exact (Nat.zero_add _).trans (Nat.one_mul _)
  | 2 => exact (Nat.zero_add _).trans (Nat.one_mul _)
theorem rowB_apply (C : Vec Ideal S32x32x16384 .i16) (k : Fin k0_t1_loop.trips) (o : Fin 32) (n : Fin 16384) :
    Run.rowB C k (ix3 0 o n) = C (ix3 ⟨2 * k.val + 1, by have := k.isLt; have := trips_eq; omega⟩ o n) := by
  refine congrArg C (funext fun a => Fin.ext ?_)
  refine (congrArg (· + 1 * ((ix3 (0 : Fin 1) o n) a).val) (congrFun (off4 k) a)).trans ?_
  match a with
  | 0 => rfl
  | 1 => exact (Nat.zero_add _).trans (Nat.one_mul _)
  | 2 => exact (Nat.zero_add _).trans (Nat.one_mul _)

/-! ## The accumulators -/

/-- The batch element of a trip. -/
def tripBatch (k : Fin k0_t1_loop.trips) : Fin 16 := ⟨k.val, by have := k.isLt; have := trips_eq; omega⟩

/-- What the two halves of a trip hold. -/
structure Halves (d : Data) (k : Fin k0_t1_loop.trips) (A B : FVec Ideal S32x16384 .f32) : Prop where
  a : ∀ o n, A (ix2 o n) = (d.z o (tripBatch k) (left n) : EReal)
  b : ∀ o n, B (ix2 o n) = (d.z o (tripBatch k) (right n) : EReal)

section Trip
variable {d : Data} {k : Fin k0_t1_loop.trips} {A B : FVec Ideal S32x16384 .f32} (hv : Halves d k A B)
include hv

theorem halves_sum (o : Fin 32) : rowSum A o + rowSum B o = ((batchSum (d.z o) k.val : ℝ) : EReal) := by
  have hb : batchSum (d.z o) k.val = ∑ n, d.z o (tripBatch k) n := dif_pos (tripBatch k).isLt
  rw [hb, ← sum_halves, EReal.coe_add]
  exact congrArg₂ _ (rowSum_real (hv.a o)) (rowSum_real (hv.b o))
theorem halves_square (o : Fin 32) :
    rowSum (mulf A A) o + rowSum (mulf B B) o = ((batchSum (fun b n => d.z o b n * d.z o b n) k.val : ℝ) : EReal) := by
  have hb : batchSum (fun b n => d.z o b n * d.z o b n) k.val = ∑ n, d.z o (tripBatch k) n * d.z o (tripBatch k) n :=
    dif_pos (tripBatch k).isLt
  rw [hb, ← sum_halves fun n => d.z o (tripBatch k) n * d.z o (tripBatch k) n, EReal.coe_add]
  refine congrArg₂ _ (rowSum_real fun n => ?_) (rowSum_real fun n => ?_)
  · show A (ix2 o n) * A (ix2 o n) = _
    rw [hv.a, EReal.coe_mul]
  · show B (ix2 o n) * B (ix2 o n) = _
    rw [hv.b, EReal.coe_mul]
theorem halves_max (o : Fin 32) : max (Finset.fold max (⊥ : EReal) (fun n => A (ix2 o n)) Finset.univ)
    (Finset.fold max (⊥ : EReal) (fun n => B (ix2 o n)) Finset.univ) = (d.z o (tripBatch k) (top d o (tripBatch k)) : EReal) := by
  simp only [hv.a, hv.b]
  refine fold_max_halves (fun n => d.z o (tripBatch k) (left n)) (fun n => d.z o (tripBatch k) (right n)) _
    (fun n => le_top d o _ _) (fun n => le_top d o _ _) ?_
  exact (left_or_right (top d o (tripBatch k))).imp (fun ⟨n, e⟩ => ⟨n, congrArg _ e⟩) fun ⟨n, e⟩ => ⟨n, congrArg _ e⟩
theorem halves_min (o : Fin 32) : min (Finset.fold min (⊤ : EReal) (fun n => A (ix2 o n)) Finset.univ)
    (Finset.fold min (⊤ : EReal) (fun n => B (ix2 o n)) Finset.univ) = (d.z o (tripBatch k) (low d o (tripBatch k)) : EReal) := by
  simp only [hv.a, hv.b]
  refine fold_min_halves (fun n => d.z o (tripBatch k) (left n)) (fun n => d.z o (tripBatch k) (right n)) _
    (fun n => low_le d o _ _) (fun n => low_le d o _ _) ?_
  exact (left_or_right (low d o (tripBatch k))).imp (fun ⟨n, e⟩ => ⟨n, congrArg _ e⟩) fun ⟨n, e⟩ => ⟨n, congrArg _ e⟩
end Trip

/-- The accumulators after `n` trips, as reals: sums over the first `n` batch elements, and the extremes of each of them. -/
structure After (d : Data) (n : ℕ) (p : Run.Pool Ideal) : Prop where
  s : ∀ o, rowSum (N := 128) p.s o = ((∑ i ∈ Finset.range n, batchSum (d.z o) i : ℝ) : EReal)
  q : ∀ o, rowSum (N := 128) p.q o = ((∑ i ∈ Finset.range n, batchSum (fun b k => d.z o b k * d.z o b k) i : ℝ) : EReal)
  mx : ∀ o (b : Fin 16), p.mx (ix2 o b) = if b.val < n then (d.z o b (top d o b) : EReal) else ⊥
  mn : ∀ o (b : Fin 16), p.mn (ix2 o b) = if b.val < n then (d.z o b (low d o b) : EReal) else ⊤

/-- A trip takes the accumulators one batch element further. -/
theorem after_trip {d : Data} {W : Vec Ideal S32x32 .f32} {C : Vec Ideal S32x32x16384 .i16} {c0 aq : Vec Ideal S32x1 .f32}
    {k : Fin k0_t1_loop.trips} (hv : Halves d k (Run.halfA W C c0 aq k) (Run.halfB W C c0 aq k)) {p : Run.Pool Ideal} (hp : After d k.val p) :
    After d (k.val + 1) (Run.trip W C c0 aq k p) where
  s o := by
    rw [Finset.sum_range_succ, EReal.coe_add, ← hp.s o, ← halves_sum hv o]
    exact lanes8 _ _ _ _ _ _ o
  q o := by
    rw [Finset.sum_range_succ, EReal.coe_add, ← hp.q o, ← halves_square hv o]
    exact lanes12 _ _ _ o
  mx o b := by
    refine (maxima k _ _ p.mx o b).trans ?_
    rw [halves_max hv o, hp.mx o b]
    by_cases h : b.val = k.val
    · have hb : b = tripBatch k := Fin.ext h
      rw [if_pos h, if_neg (by omega), if_pos (by omega), hb]
      exact bot_sup_eq _
    · rw [if_neg h]
      exact if_congr (by omega) rfl rfl
  mn o b := by
    refine (minima k _ _ p.mn o b).trans ?_
    rw [halves_min hv o, hp.mn o b]
    by_cases h : b.val = k.val
    · have hb : b = tripBatch k := Fin.ext h
      rw [if_pos h, if_neg (by omega), if_pos (by omega), hb]
      exact top_inf_eq _
    · rw [if_neg h]
      exact if_congr (by omega) rfl rfl

/-- All trips. -/
theorem after_pool {d : Data} {W : Vec Ideal S32x32 .f32} {C : Vec Ideal S32x32x16384 .i16} {c0 aq : Vec Ideal S32x1 .f32}
    (hv : ∀ k, Halves d k (Run.halfA W C c0 aq k) (Run.halfB W C c0 aq k)) : ∀ n, n ≤ k0_t1_loop.trips → After d n (Run.pool W C c0 aq n)
  | 0, _ => ⟨start_20, start_21, fun o b => (start_mx o b).trans (if_neg (Nat.not_lt_zero _)).symm,
      fun o b => (start_mn o b).trans (if_neg (Nat.not_lt_zero _)).symm⟩
  | n + 1, hn => by
    have e := Run.pool_succ W C c0 aq ⟨n, hn⟩
    rw [show Run.pool W C c0 aq (n + 1) = _ from e]
    exact after_trip (hv ⟨n, hn⟩) (after_pool hv n (Nat.le_of_succ_le hn))

/-! ## The stored block -/

/-- A batch norm's factor and term from sums and squares over everything. -/
theorem factor {S Q : Vec Ideal S32x128 .f32} {g : Vec Ideal S32x1 .f32} {o : Fin 32} {f : Fin 16 → Fin 32768 → ℝ} {rg : ℝ}
    (hS : rowSum (N := 128) S o = ((∑ i ∈ Finset.range 16, batchSum f i : ℝ) : EReal))
    (hQ : rowSum (N := 128) Q o = ((∑ i ∈ Finset.range 16, batchSum (fun b n => f b n * f b n) i : ℝ) : EReal))
    (hg : g (ix2 o 0) = (rg : EReal)) :
    k0_pay16 (F := Ideal) S (ix2 o 0) = (Reals.mean f : EReal)
      ∧ k0_pay17 (F := Ideal) S Q g (ix2 o 0) = ((Reals.gain (Reals.mean (fun b n => f b n * f b n) - Reals.mean f * Reals.mean f) rg : ℝ) : EReal) := by
  rw [sum_batches] at hS hQ
  refine ⟨pay16_real hS, pay17_real hS hQ hg ?_⟩
  have := Reals.var_nonneg f
  rw [Reals.var_eq] at this
  exact this

variable {m : (ℓ : Loc nD τ sig) → Buf (Elt Ideal) ℓ} {c : Dev nD} {d : Data} (h : Holds m c d)
include h

/-- The affine columns of the second phase. -/
abbrev col (m : (ℓ : Loc nD τ sig) → Buf (Elt Ideal) ℓ) (c : Dev nD) (t : Fin cfg0.N) : Vec Ideal S32x1 .f32 :=
  k0_pay18 (Run.sums m c 16) (Run.squares m c 16) (iblk m c 12 t) (iblk m c 13 t)
abbrev fac (m : (ℓ : Loc nD τ sig) → Buf (Elt Ideal) ℓ) (c : Dev nD) (t : Fin cfg0.N) : Vec Ideal S32x1 .f32 :=
  k0_pay19 (Run.sums m c 16) (Run.squares m c 16) (iblk m c 12 t) (iblk m c 11 t)

theorem columns (t : Fin cfg0.N) (o : Fin 32) :
    col m c t (ix2 o 0) = ((d.e0 o - Reals.fac0 d.X d.P d.A d.g0 o * Reals.mean (d.y o) : ℝ) : EReal)
      ∧ fac m c t (ix2 o 0) = ((Reals.fac0 d.X d.P d.A d.g0 o * (1 / Reals.scale d.A o) : ℝ) : EReal) := by
  have hg : iblk m c 12 t (ix2 o 0) = (d.g0 o : EReal) := by rw [blk12]; exact g0_real h o
  have he : iblk m c 13 t (ix2 o 0) = (d.e0 o : EReal) := by rw [blk13]; exact e0_real h o
  have hr : iblk m c 11 t (ix2 o 0) = ((1 / Reals.scale d.A o : ℝ) : EReal) := by rw [blk11]; exact unscale_real h o
  have hf := factor (g := iblk m c 12 t) (sums_real h o 16 le_rfl) (squares_real h o 16 le_rfl) hg
  exact ⟨pay18_real hf.1 hf.2 he, pay19_real hf.2 hr⟩

/-- The second layer on a trip's rows. -/
theorem halves_real (t : Fin cfg0.N) (k : Fin k0_t1_loop.trips) :
    Halves d k (Run.halfA (iblk m c 14 t) (Run.codes m c) (col m c t) (fac m c t) k)
      (Run.halfB (iblk m c 14 t) (Run.codes m c) (col m c t) (fac m c t) k) where
  a o n := by
    refine (pay3_real (fun i => (columns h t i).1) (fun i => (columns h t i).2)
      (fun i => (congrArg _ (rowA_apply _ k i n)).trans (codes_real h (tripBatch k) 0 i n _ rfl (left n) (Nat.zero_add _).symm))
      (fun i => by rw [blk14]; exact w1_real h o i)).trans ?_
    exact congrArg _ (Finset.sum_congr rfl fun i _ => congrArg (d.B o i * ·)
      (Reals.act_eq d.X d.P d.A d.b0 d.g0 d.e0 i (tripBatch k) (left n)).symm)
  b o n := by
    refine (pay3_real (fun i => (columns h t i).1) (fun i => (columns h t i).2)
      (fun i => (congrArg _ (rowB_apply _ k i n)).trans (codes_real h (tripBatch k) 1 i n _ rfl (right n) rfl))
      (fun i => by rw [blk14]; exact w1_real h o i)).trans ?_
    exact congrArg _ (Finset.sum_congr rfl fun i _ => congrArg (d.B o i * ·)
      (Reals.act_eq d.X d.P d.A d.b0 d.g0 d.e0 i (tripBatch k) (right n)).symm)

/-- The stored block: the output's greatest value over the points of a batch element. -/
theorem result_real (t : Fin cfg0.N) (o : Fin 32) (b : Fin 16) :
    ∃ k, (∀ n, Reals.out d.X d.P d.A d.b0 d.g0 d.e0 d.B d.b1 d.g1 d.e1 o b n ≤ Reals.out d.X d.P d.A d.b0 d.g0 d.e0 d.B d.b1 d.g1 d.e1 o b k)
      ∧ Run.result m c t (ix2 o b) = ((Reals.out d.X d.P d.A d.b0 d.g0 d.e0 d.B d.b1 d.g1 d.e1 o b k : ℝ) : EReal) := by
  have hp := after_pool (halves_real h t) k0_t1_loop.trips le_rfl
  have hg : iblk m c 16 t (ix2 o 0) = (d.g1 o : EReal) := by rw [blk16]; exact g1_real h o
  have he : iblk m c 17 t (ix2 o 0) = (d.e1 o : EReal) := by rw [blk17]; exact e1_real h o
  have hf := factor (g := iblk m c 16 t) (hp.s o) (hp.q o) hg
  have hx := (hp.mx o b).trans (if_pos (Nat.lt_of_lt_of_eq b.isLt trips_eq.symm))
  have hn := (hp.mn o b).trans (if_pos (Nat.lt_of_lt_of_eq b.isLt trips_eq.symm))
  have hr := pay2_real (g := iblk m c 16 t) (e := iblk m c 17 t) hf.2 (pay18_real hf.1 hf.2 he) hx hn
  refine ⟨if 0 ≤ Reals.fac1 d.X d.P d.A d.b0 d.g0 d.e0 d.B d.g1 o then top d o b else low d o b, fun n => ?_, ?_⟩
  · rw [Reals.out_eq, Reals.out_eq]
    refine Reals.pick_le _ _ _ _ ⟨fun h0 => ?_, fun h0 => ?_⟩
    · rw [if_pos h0]; exact le_top d o b n
    · rw [if_neg h0]; exact low_le d o b n
  · refine Eq.trans hr (congrArg _ ?_)
    rw [Reals.out_eq]
    exact congrArg (max · 0) (congrArg (· + _) (congrArg (_ * ·) (apply_ite (d.z o b) _ _ _).symm))

end Cert.KernelIdeal.Phases

end
-- ==== Proof.V.Ending.lean ====
/-
  What the kernel's program leaves in its two results: the stored block, turned and reshaped, and zeros.
-/
module

public import proofs.«01_k».proof.Proof.KI.Run
public import Idealize.ShloMosaic.Lib.Pipeline.ValueKit
public import Idealize.ShloMosaic.Lib.Claim

@[expose] public section

set_option maxRecDepth 16384

noncomputable section

namespace Cert.KernelIdeal.Ending

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The grid's last step. -/
def lastStep : Fin cfg0.N := ⟨15, by decide⟩

/-- The region leaves the last step's block in the output array. -/
theorem out_array : (Run.dats m 0 c).arrAt 18 cfg0.N = Run.result m c lastStep := by
  refine Dat.arrAt_eq_of_after_last (Run.dats m 0 c) 18 lastStep (by decide +kernel) _ fun j => ?_
  blk_simp
  rfl

/-- What the buffers hold when the region is through. -/
abbrev region : Valuation τ sig (Elt Ideal) :=
  Pipeline.withArrays (cfgs 0).spec c (V0 m c) fun w => (Run.dats m 0 c).arrAt w (cfgs 0).N

theorem region_out : region m c (Proc.devRef .tc main_v19) = Run.result m c lastStep := by
  refine (Pipeline.withArrays_arr_shared spec0 c (V0 m c) (fun w => (Run.dats m 0 c).arrAt w cfg0.N) ?_ 18).trans (out_array m c)
  exact Dat.arrAt_sharedIn (Run.dats m 0 c) sharedIn0 (V0 m c) (fun w => Run.A_eq m c w) cfg0.N

theorem tail_eq (b : Ref sig .tc) : Pipeline.afterTail₀ cfgs (Run.dats m) 0 (V0 m) [hostOps1] c b
    = StableHlo.after hostOps1 (region m c) (Proc.devRef .tc b) := by
  show StableHlo.after (List.flatten [hostOps1]) _ _ = _
  rw [List.flatten_cons, List.flatten_nil, List.append_nil]

/-- The second result. -/
theorem pooled (b : Fin 16) (o : Fin 32) (z : Fin 1) :
    Pipeline.afterTail₀ cfgs (Run.dats m) 0 (V0 m) [hostOps1] c main_v21 (ix3 b o z) = Run.result m c lastStep (ix2 o b) := by
  rw [tail_eq, ← region_out]
  generalize region m c = W
  entry_read
  pointwise

/-- The first result. -/
theorem zeros : Pipeline.afterTail₀ cfgs (Run.dats m) 0 (V0 m) [hostOps1] c main_v22
    = broadcastInDim S16x3x1 ![] bcast_S_S16x3x1 (constant (F := Ideal) S_ .f32 0x00000000#32) := by
  rw [tail_eq]
  generalize region m c = W
  after_results

end Cert.KernelIdeal.Ending

end
-- ==== Proof.V.RefStages.lean ====
/-
  The reference's second result, cut into the stages its text has: the first layer, the quantiser, the statistics of a
  channel, the normalisation, the second layer, and the maximum over the points.
-/
module

public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Gen
open Idealize.ShloMosaic Idealize.ShloMosaic.TcCoe Idealize.SL.Sem

/-- A channel's values in the shape the statistics have. -/
def col (v : FVec Ideal S32 .f32) : FVec Ideal S1x32x1 .f32 := broadcastInDim S1x32x1 ![1] bcast_S32_S1x32x1_1 v
/-- Statistics of the channels spread over the batch and the points. -/
def wide (v : FVec Ideal S1x32x1 .f32) : FVec Ideal S16x32x32768 .f32 :=
  broadcastInDim S16x32x32768 ![0, 1, 2] bcast_S1x32x1_S16x32x32768_0_1_2 v
/-- The quantiser's scale, one per channel. -/
def scale (W0 : FVec Ideal S32x19 .f32) : FVec Ideal S32 .f32 :=
  Host.divf (broadcastInDim S32 ![] bcast_S_S32 (constant S_ .f32 0x46FFFE00#32))
    (addf (mulf (broadcastInDim S32 ![] bcast_S_S32 (constant S_ .f32 0x41800000#32))
        (Host.sqrt (Host.reduceAdd (mulf W0 W0) (constant S_ .f32 0x00000000#32) reducesTo_S32x19_S32_d1 h_S_)))
      (broadcastInDim S32 ![] bcast_S_S32 (constant S_ .f32 0x1E3CE508#32)))
/-- The first layer without its bias. -/
def lin0 (x : FVec Ideal S16x3x32768 .f32) (p : FVec Ideal S16x16x32768 .f32) (W0 : FVec Ideal S32x19 .f32) : FVec Ideal S16x32x32768 .f32 :=
  transpose S16x32x32768 [1, 0, 2] (Host.dotGeneral dot_S32x19_S16x19x32768_S32x16x32768_1_1_0_02_n_n none W0
    (concatenate S16x19x32768 1 [⟨S16x3x32768, x⟩, ⟨S16x16x32768, p⟩] concatenates_S16x3x32768_S16x16x32768_S16x19x32768_d1))
    transposes_S32x16x32768_S16x32x32768_1_0_2
/-- The mean of each channel over the batch and the points. -/
def mean (h : FVec Ideal S16x32x32768 .f32) : FVec Ideal S1x32x1 .f32 :=
  Host.divf (col (Host.reduceAdd h (constant S_ .f32 0x00000000#32) reducesTo_S16x32x32768_S32_d0_2 h_S_))
    (broadcastInDim S1x32x1 ![] bcast_S_S1x32x1 (constant S_ .f32 0x49000000#32))
/-- The mean square deviation of each channel. -/
def var (h : FVec Ideal S16x32x32768 .f32) : FVec Ideal S1x32x1 .f32 :=
  mean (mulf (subf h (wide (mean h))) (subf h (wide (mean h))))
/-- The quantiser: scaled, clipped, rounded toward zero and scaled back. -/
def quant (y : FVec Ideal S16x32x32768 .f32) (s : FVec Ideal S32 .f32) : FVec Ideal S16x32x32768 .f32 :=
  Host.divf (sitofp .f32 (fptosi 32 (minimumf (broadcastInDim S16x32x32768 ![] bcast_S_S16x32x32768 (constant S_ .f32 0x46FFFE00#32))
    (maximumf (broadcastInDim S16x32x32768 ![] bcast_S_S16x32x32768 (constant S_ .f32 0xC6FFFE00#32)) (mulf y (wide (col s)))))))
    (wide (col s))
/-- The batch norm with given statistics, and the relu. -/
def norm (h : FVec Ideal S16x32x32768 .f32) (mu va : FVec Ideal S1x32x1 .f32) (g be : FVec Ideal S32 .f32) : FVec Ideal S16x32x32768 .f32 :=
  maximumf (addf (mulf (wide (col g)) (Host.divf (subf h (wide mu))
      (wide (Host.sqrt (addf va (broadcastInDim S1x32x1 ![] bcast_S_S1x32x1 (constant S_ .f32 0x3727C5AC#32)))))))
      (wide (col be)))
    (broadcastInDim S16x32x32768 ![] bcast_S_S16x32x32768 (constant S_ .f32 0x00000000#32))
/-- The second layer without its bias. -/
def lin1 (h : FVec Ideal S16x32x32768 .f32) (W1 : FVec Ideal S32x32 .f32) : FVec Ideal S16x32x32768 .f32 :=
  transpose S16x32x32768 [1, 0, 2] (Host.dotGeneral dot_S32x32_S16x32x32768_S32x16x32768_1_1_0_02_n_n none W1 h)
    transposes_S32x16x32768_S16x32x32768_1_0_2
/-- The maximum over the points. -/
def top (h : FVec Ideal S16x32x32768 .f32) : FVec Ideal S16x32x1 .f32 :=
  broadcastInDim S16x32x1 ![0, 1] bcast_S16x32_S16x32x1_0_1
    (Host.reduce FloatOps.maximumf h (constant S_ .f32 0xFF800000#32) reducesTo_S16x32x32768_S16x32_d2 h_S_)

/-- The activations after the first layer. -/
def act (x : FVec Ideal S16x3x32768 .f32) (p : FVec Ideal S16x16x32768 .f32) (W0 : FVec Ideal S32x19 .f32)
    (b0 g0 be0 : FVec Ideal S32 .f32) : FVec Ideal S16x32x32768 .f32 :=
  norm (addf (quant (lin0 x p W0) (scale W0)) (wide (col b0))) (mean (addf (lin0 x p W0) (wide (col b0))))
    (var (addf (lin0 x p W0) (wide (col b0)))) g0 be0
/-- The second layer with its bias. -/
def pre1 (x : FVec Ideal S16x3x32768 .f32) (p : FVec Ideal S16x16x32768 .f32) (W0 : FVec Ideal S32x19 .f32)
    (b0 g0 be0 : FVec Ideal S32 .f32) (W1 : FVec Ideal S32x32 .f32) (b1 : FVec Ideal S32 .f32) : FVec Ideal S16x32x32768 .f32 :=
  addf (lin1 (act x p W0 b0 g0 be0) W1) (wide (col b1))
/-- The whole second result. -/
def whole (x : FVec Ideal S16x3x32768 .f32) (p : FVec Ideal S16x16x32768 .f32) (W0 : FVec Ideal S32x19 .f32)
    (b0 g0 be0 : FVec Ideal S32 .f32) (W1 : FVec Ideal S32x32 .f32) (b1 g1 be1 : FVec Ideal S32 .f32) : FVec Ideal S16x32x1 .f32 :=
  top (norm (pre1 x p W0 b0 g0 be0 W1 b1) (mean (pre1 x p W0 b0 g0 be0 W1 b1)) (var (pre1 x p W0 b0 g0 be0 W1 b1)) g1 be1)

/-- What the run of the reference leaves is the stages' composition. -/
theorem res_eq (m : (ℓ : Loc nD τ sig) → Buf (Elt Ideal) ℓ) (c : Dev nD) :
    Cert.ReferenceIdeal.Value.res_main_v90 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Cert.ReferenceIdeal.Value.res_main_v90
  rfl

end Cert.ReferenceIdeal.Stages

end
-- ==== Proof.V.RefReal.lean ====
/-
  The reference's stages at real arguments: each is the real mathematics of the same name.
-/
module

public import proofs.«01_k».proof.Proof.V.RefStages
public import proofs.«01_k».proof.Proof.V.Reals

@[expose] public section

set_option maxRecDepth 16384

noncomputable section

namespace Cert.ReferenceIdeal.Stages

open Cert.ReferenceIdeal Cert.ReferenceIdeal.Gen Cert.Lift
open Idealize.ShloMosaic Idealize.ShloMosaic.TcCoe Idealize.SL.Sem

/-- The sum over the batch and the points of one channel, as a double sum. -/
theorem sum_channel (h : FVec Ideal S16x32x32768 .f32) (o : Fin 32) :
    Ideal.hostReduceAdd reducesTo_S16x32x32768_S32_d0_2 h 0 (ix1 o) = ∑ b : Fin 16, ∑ n : Fin 32768, h (ix3 b o n) := by
  unfold Ideal.hostReduceAdd
  rw [zero_add, Finset.sum_filter, sum_idx3]
  refine Finset.sum_congr rfl fun b _ => ?_
  rw [Finset.sum_comm]
  refine Finset.sum_congr rfl fun n _ => ?_
  have e : ∀ o' : Fin 32, reducesTo_S16x32x32768_S32_d0_2.drop (ix3 b o' n) = ix1 o ↔ o' = o := fun o' => by
    constructor
    · intro h
      have := congrFun h 0
      exact this
    · rintro rfl
      funext a
      match a with
      | 0 => rfl
  simp only [e]
  rw [Finset.sum_ite_eq' Finset.univ o, if_pos (Finset.mem_univ _)]

section
variable {x : FVec Ideal S16x3x32768 .f32} {p : FVec Ideal S16x16x32768 .f32} {W0 : FVec Ideal S32x19 .f32}
  {b0 g0 be0 : FVec Ideal S32 .f32} {W1 : FVec Ideal S32x32 .f32} {b1 g1 be1 : FVec Ideal S32 .f32}
  {X : Fin 16 → Fin 3 → Fin 32768 → ℝ} {P : Fin 16 → Fin 16 → Fin 32768 → ℝ} {A : Fin 32 → Fin 19 → ℝ}
  {rb0 rg0 rbe0 : Fin 32 → ℝ} {B : Fin 32 → Fin 32 → ℝ} {rb1 rg1 rbe1 : Fin 32 → ℝ}

theorem scale_real (hW : ∀ o k, W0 (ix2 o k) = (A o k : EReal)) (o : Fin 32) : scale W0 (ix1 o) = (Reals.scale A o : EReal) := by
  pointwise [scale]
  simp only [hW, ← EReal.coe_mul, sum_real, bits_hi, bits_sixteen, bits_tiny]
  rw [sqrt_real (Finset.sum_nonneg fun k _ => mul_self_nonneg _), ← EReal.coe_mul, ← EReal.coe_add,
    div_real _ (Reals.scale_den_pos A o).ne']
  rfl

theorem lin0_real (hx : ∀ b k n, x (ix3 b k n) = (X b k n : EReal)) (hp : ∀ b k n, p (ix3 b k n) = (P b k n : EReal))
    (hW : ∀ o k, W0 (ix2 o k) = (A o k : EReal)) (b : Fin 16) (o : Fin 32) (n : Fin 32768) :
    lin0 x p W0 (ix3 b o n) = (Reals.lin0 X P A o b n : EReal) := by
  pointwise [lin0]
  simp only [hx, hp, hW, ← EReal.coe_mul, sum_real, ← EReal.coe_add]
  rfl

theorem mean_real {h : FVec Ideal S16x32x32768 .f32} {H : Fin 16 → Fin 32768 → ℝ} {o : Fin 32}
    (hh : ∀ b n, h (ix3 b o n) = (H b n : EReal)) : mean h (ix3 0 o 0) = (Reals.mean H : EReal) := by
  pointwise [mean, col]
  rw [sum_channel]
  simp only [hh, sum_real, bits_count]
  rw [div_real _ (by norm_num)]
  rfl

theorem var_real {h : FVec Ideal S16x32x32768 .f32} {H : Fin 16 → Fin 32768 → ℝ} {o : Fin 32}
    (hh : ∀ b n, h (ix3 b o n) = (H b n : EReal)) : var h (ix3 0 o 0) = (Reals.var H : EReal) := by
  unfold var
  refine mean_real fun b n => ?_
  pointwise [wide]
  rw [hh, mean_real hh, ← EReal.coe_sub, ← EReal.coe_mul]

theorem quant_real {y : FVec Ideal S16x32x32768 .f32} {s : FVec Ideal S32 .f32} {b : Fin 16} {o : Fin 32} {n : Fin 32768} {u v : ℝ}
    (hy : y (ix3 b o n) = (u : EReal)) (hs : s (ix1 o) = (v : EReal)) (hv : v ≠ 0) :
    quant y s (ix3 b o n) = (((trunc (Reals.clip u v) : ℝ) / v : ℝ) : EReal) := by
  pointwise [quant, wide, col]
  rw [hy, hs, bits_hi, bits_lo, ← EReal.coe_mul, max_real, min_real]
  show Ideal.div (FloatOps.sitofp (F := Ideal) .f32 (FloatOps.fptosi (F := Ideal) (φ := .f32) 32 ((Reals.clip u v : ℝ) : EReal))) _ = _
  rw [read_32 (Reals.clip_bounds u v).1 (Reals.clip_bounds u v).2, div_real _ hv]

theorem norm_real {h : FVec Ideal S16x32x32768 .f32} {mu va : FVec Ideal S1x32x1 .f32} {g be : FVec Ideal S32 .f32}
    {b : Fin 16} {o : Fin 32} {n : Fin 32768} {rh rm rv rg re : ℝ}
    (hh : h (ix3 b o n) = (rh : EReal)) (hm : mu (ix3 0 o 0) = (rm : EReal)) (hv : va (ix3 0 o 0) = (rv : EReal))
    (hg : g (ix1 o) = (rg : EReal)) (he : be (ix1 o) = (re : EReal)) (h0 : 0 ≤ rv) :
    norm h mu va g be (ix3 b o n) = (Reals.norm rh rm rv rg re : EReal) := by
  pointwise [norm, wide, col]
  have hp : 0 < rv + eps := add_pos_of_nonneg_of_pos h0 eps_pos
  rw [hh, hm, hv, hg, he, bits_eps, ← EReal.coe_add, sqrt_real hp.le, ← EReal.coe_sub, div_real _ (Real.sqrt_pos.2 hp).ne',
    ← EReal.coe_mul, ← EReal.coe_add, ← EReal.coe_zero, max_real]
  rfl

theorem lin1_real {h : FVec Ideal S16x32x32768 .f32} {H : Fin 32 → Fin 16 → Fin 32768 → ℝ}
    (hh : ∀ b k n, h (ix3 b k n) = (H k b n : EReal)) (hW : ∀ o k, W1 (ix2 o k) = (B o k : EReal))
    (b : Fin 16) (o : Fin 32) (n : Fin 32768) : lin1 h W1 (ix3 b o n) = ((∑ k, B o k * H k b n : ℝ) : EReal) := by
  pointwise [lin1]
  simp only [hh, hW, ← EReal.coe_mul, sum_real]

theorem bias_real {h : FVec Ideal S16x32x32768 .f32} {v : FVec Ideal S32 .f32} {b : Fin 16} {o : Fin 32} {n : Fin 32768} {rh rv : ℝ}
    (hh : h (ix3 b o n) = (rh : EReal)) (hv : v (ix1 o) = (rv : EReal)) :
    addf h (wide (col v)) (ix3 b o n) = ((rh + rv : ℝ) : EReal) := by
  pointwise [wide, col]
  rw [hh, hv, ← EReal.coe_add]

/-- The activations after the first layer are the real ones. -/
theorem act_real (hx : ∀ b k n, x (ix3 b k n) = (X b k n : EReal)) (hp : ∀ b k n, p (ix3 b k n) = (P b k n : EReal))
    (hW : ∀ o k, W0 (ix2 o k) = (A o k : EReal)) (hb0 : ∀ o, b0 (ix1 o) = (rb0 o : EReal)) (hg0 : ∀ o, g0 (ix1 o) = (rg0 o : EReal))
    (he0 : ∀ o, be0 (ix1 o) = (rbe0 o : EReal)) (b : Fin 16) (o : Fin 32) (n : Fin 32768) :
    act x p W0 b0 g0 be0 (ix3 b o n) = (Reals.act X P A rb0 rg0 rbe0 o b n : EReal) := by
  unfold act
  have hl : ∀ b n, addf (lin0 x p W0) (wide (col b0)) (ix3 b o n) = ((Reals.lin0 X P A o b n + rb0 o : ℝ) : EReal) :=
    fun b n => bias_real (lin0_real hx hp hW b o n) (hb0 o)
  exact norm_real (bias_real (quant_real (lin0_real hx hp hW b o n) (scale_real hW o) (Reals.scale_pos A o).ne') (hb0 o))
    (mean_real hl) (var_real hl) (hg0 o) (he0 o) (Reals.var_nonneg _)

/-- The reference's second result is the greatest of the real outputs over the points. -/
theorem whole_real (hx : ∀ b k n, x (ix3 b k n) = (X b k n : EReal)) (hp : ∀ b k n, p (ix3 b k n) = (P b k n : EReal))
    (hW : ∀ o k, W0 (ix2 o k) = (A o k : EReal)) (hb0 : ∀ o, b0 (ix1 o) = (rb0 o : EReal)) (hg0 : ∀ o, g0 (ix1 o) = (rg0 o : EReal))
    (he0 : ∀ o, be0 (ix1 o) = (rbe0 o : EReal)) (hW1 : ∀ o k, W1 (ix2 o k) = (B o k : EReal)) (hb1 : ∀ o, b1 (ix1 o) = (rb1 o : EReal))
    (hg1 : ∀ o, g1 (ix1 o) = (rg1 o : EReal)) (he1 : ∀ o, be1 (ix1 o) = (rbe1 o : EReal))
    (b : Fin 16) (o : Fin 32) (z : Fin 1) (k : Fin 32768)
    (hk : ∀ n, Reals.out X P A rb0 rg0 rbe0 B rb1 rg1 rbe1 o b n ≤ Reals.out X P A rb0 rg0 rbe0 B rb1 rg1 rbe1 o b k) :
    whole x p W0 b0 g0 be0 W1 b1 g1 be1 (ix3 b o z) = (Reals.out X P A rb0 rg0 rbe0 B rb1 rg1 rbe1 o b k : EReal) := by
  have hl : ∀ b n, pre1 x p W0 b0 g0 be0 W1 b1 (ix3 b o n) = ((Reals.lin1 X P A rb0 rg0 rbe0 B o b n + rb1 o : ℝ) : EReal) :=
    fun b n => bias_real (lin1_real (fun b k n => act_real hx hp hW hb0 hg0 he0 b k n) hW1 b o n) (hb1 o)
  have ho : ∀ n, norm (pre1 x p W0 b0 g0 be0 W1 b1) (mean (pre1 x p W0 b0 g0 be0 W1 b1)) (var (pre1 x p W0 b0 g0 be0 W1 b1)) g1 be1
      (ix3 b o n) = (Reals.out X P A rb0 rg0 rbe0 B rb1 rg1 rbe1 o b n : EReal) :=
    fun n => norm_real (hl b n) (mean_real hl) (var_real hl) (hg1 o) (he1 o) (Reals.var_nonneg _)
  unfold whole
  generalize norm (pre1 x p W0 b0 g0 be0 W1 b1) (mean (pre1 x p W0 b0 g0 be0 W1 b1)) (var (pre1 x p W0 b0 g0 be0 W1 b1)) g1 be1 = h at ho
  pointwise [top]
  simp only [ho, bits_bot]
  exact fold_max _ k hk
end

end Cert.ReferenceIdeal.Stages

end
-- ==== Proof.V.Finite.lean ====
/-
  The precondition: every element of every argument is a real.
-/
module

public import proofs.«01_k».proof.Proof.Gen.Pre_finite_arguments
public import proofs.«01_k».proof.Proof.V.Lift
public import Idealize.ShloMosaic.Lib.ReduceAll

@[expose] public section

noncomputable section

namespace Cert.Pre_finite_arguments.Unpack

open Cert.Pre_finite_arguments Cert.Lift
open Idealize.ShloMosaic

/-- Every element is a real. -/
def AllReal {s : Shape} (v : FVec Ideal s .f32) : Prop := ∀ i, v i = (((v i : EReal).toReal : ℝ) : EReal)

/-- An extended real whose absolute value is below infinity is a real. -/
theorem real_of_abs_lt {x : EReal} (h : Ideal.cmp .olt (max x (-x)) ⊤ = 1#1) : x = ((x.toReal : ℝ) : EReal) := by
  induction x using EReal.rec with
  | bot => exact absurd h (by simp [Ideal.cmp])
  | coe r => simp
  | top => exact absurd h (by simp [Ideal.cmp])

instance : Subsingleton S_.Idx := ⟨fun a b => funext fun i => i.elim0⟩

/-- One conjunct of the precondition. -/
theorem allReal_of {s : Shape} {axes : List (Fin s.rank)} (v : FVec Ideal s .f32) (hb : S_.BroadcastsInDim s (![] : Fin 0 → Fin s.rank))
    (h : s.ReducesTo axes S_) (hu : 0 < S_.numel) (j : S_.Idx)
    (e : Host.reduce IntOp.andi (cmpf .olt (Host.absf v) (broadcastInDim s ![] hb (constant S_ .f32 0x7F800000#32))) (constantI S_ 1 1#1) h hu j = 1#1) :
    AllReal v := fun i => by
  have h1 := Host.reduce_andi_all _ _ h hu j e i
  refine real_of_abs_lt ?_
  rw [← bits_top]
  exact h1

theorem split {a b : BitVec 1} (h : a &&& b = 1#1) : a = 1#1 ∧ b = 1#1 := by
  revert a b; decide

/-- What the precondition says. -/
theorem unpack (a0 : FVec Ideal S16x3x32768 .f32) (a1 : FVec Ideal S16x16x32768 .f32) (a2 : FVec Ideal S32x19 .f32) (a3 a4 a5 : FVec Ideal S32 .f32)
    (a6 : FVec Ideal S32x32 .f32) (a7 a8 a9 : FVec Ideal S32 .f32) (j : S_.Idx) (h : fn (F := Ideal) a0 a1 a2 a3 a4 a5 a6 a7 a8 a9 j = 1#1) :
    AllReal a0 ∧ AllReal a1 ∧ AllReal a2 ∧ AllReal a3 ∧ AllReal a4 ∧ AllReal a5 ∧ AllReal a6 ∧ AllReal a7 ∧ AllReal a8 ∧ AllReal a9 := by
  obtain ⟨h, e9⟩ := split h
  obtain ⟨h, e8⟩ := split h
  obtain ⟨h, e7⟩ := split h
  obtain ⟨h, e6⟩ := split h
  obtain ⟨h, e5⟩ := split h
  obtain ⟨h, e4⟩ := split h
  obtain ⟨h, e3⟩ := split h
  obtain ⟨h, e2⟩ := split h
  obtain ⟨h, e1⟩ := split h
  obtain ⟨h, e0⟩ := split h
  exact ⟨allReal_of _ _ _ _ _ e0, allReal_of _ _ _ _ _ e1, allReal_of _ _ _ _ _ e2, allReal_of _ _ _ _ _ e3, allReal_of _ _ _ _ _ e4,
    allReal_of _ _ _ _ _ e5, allReal_of _ _ _ _ _ e6, allReal_of _ _ _ _ _ e7, allReal_of _ _ _ _ _ e8, allReal_of _ _ _ _ _ e9⟩

end Cert.Pre_finite_arguments.Unpack

end
-- ==== Proof.V.Value.lean ====
/-
  The values meet: on real arguments, the kernel's program and the reference leave the same second result.
-/
module

public import proofs.«01_k».proof.Defs
public import proofs.«01_k».proof.Proof.V.PhaseTwo
public import proofs.«01_k».proof.Proof.V.Ending
public import proofs.«01_k».proof.Proof.V.RefReal
public import proofs.«01_k».proof.Proof.V.Finite
public import proofs.«01_k».proof.Proof.Gen.Pre_finite_arguments
public import proofs.«01_k».proof.Proof.Gen.ReferenceIdeal.Run

@[expose] public section

set_option maxRecDepth 16384

noncomputable section

namespace Cert.Proof

open Cert.KernelIdeal Cert.KernelIdeal.Gen Cert.KernelIdeal.Windows
open Idealize.ShloMosaic Idealize.ShloMosaic.TcCoe Idealize.SL.Sem

variable (m : (ℓ : Loc nD τ sig) → Buf (Elt Ideal) ℓ) (c : Dev nD)

/-- The arguments in memory, each entry taken as a real. -/
def dataOf : Data where
  X b k n := (m ((c : Thread nD τ).loc main_arg0) (ix3 b k n)).toReal
  P b k n := (m ((c : Thread nD τ).loc main_arg1) (ix3 b k n)).toReal
  A o k := (m ((c : Thread nD τ).loc main_arg2) (ix2 o k)).toReal
  b0 o := (m ((c : Thread nD τ).loc main_arg3) (ix1 o)).toReal
  g0 o := (m ((c : Thread nD τ).loc main_arg4) (ix1 o)).toReal
  e0 o := (m ((c : Thread nD τ).loc main_arg5) (ix1 o)).toReal
  B o k := (m ((c : Thread nD τ).loc main_arg6) (ix2 o k)).toReal
  b1 o := (m ((c : Thread nD τ).loc main_arg7) (ix1 o)).toReal
  g1 o := (m ((c : Thread nD τ).loc main_arg8) (ix1 o)).toReal
  e1 o := (m ((c : Thread nD τ).loc main_arg9) (ix1 o)).toReal

/-- The precondition says that the entries are these reals. -/
theorem holds_of_pre (h : Cert.Pre_KernelIdeal_finite_arguments m) : Holds m c (dataOf m c) := by
  obtain ⟨h0, h1, h2, h3, h4, h5, h6, h7, h8, h9⟩ := Cert.Pre_finite_arguments.Unpack.unpack _ _ _ _ _ _ _ _ _ _ _ (congrFun (h c) ix0)
  exact ⟨fun _ _ _ => h0 _, fun _ _ _ => h1 _, fun _ _ => h2 _, fun _ => h3 _, fun _ => h4 _, fun _ => h5 _, fun _ _ => h6 _,
    fun _ => h7 _, fun _ => h8 _, fun _ => h9 _⟩

/-- The reference's function of the kernel's arguments. -/
abbrev refOf : FVec Ideal Cert.ReferenceIdeal.S16x32x1 .f32 :=
  Cert.ReferenceIdeal.Stages.whole (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- What the kernel's program leaves in its second result is that function. -/
theorem pooled_eq (h : Holds m c (dataOf m c)) :
    Pipeline.afterTail₀ cfgs (Run.dats m) 0 (V0 m) [hostOps1] c main_v21 = refOf m c := by
  funext i
  obtain ⟨b, o, z, rfl⟩ : ∃ b o z, i = ix3 b o z := ⟨i 0, i 1, i 2, eq_ix3 i⟩
  obtain ⟨k, hk, hr⟩ := Phases.result_real h Ending.lastStep o b
  exact (Ending.pooled m c b o z).trans (hr.trans
    (Cert.ReferenceIdeal.Stages.whole_real h.x h.p h.w0 h.b0 h.g0 h.e0 h.w1 h.b1 h.g1 h.e1 b o z k hk).symm)

end Cert.Proof

end
-- ==== Proof.lean ====
/-
  The certificate: its claims, proved from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_arguments
public import proofs.«01_k».proof.Proof.KI.Run
public import proofs.«01_k».proof.Proof.K.Run
public import proofs.«01_k».proof.Proof.Gen.ReferenceIdeal.Run
public import proofs.«01_k».proof.Proof.V.Value
public import Idealize.ShloMosaic.Init

@[expose] public section

noncomputable section

namespace Cert.Proof

open Idealize.ShloMosaic Idealize.SL.Sem

/-- The kernel's frame, at the machine's floats. -/
theorem frame_kernel : Cert.quiescent_Kernel := fun m g _ => Cert.Kernel.Run.frame (F := Bits) m g
/-- The kernel's frame over the reals. -/
theorem frame_ideal : Cert.quiescent_KernelIdeal := fun m g _ => Cert.KernelIdeal.Run.frame (F := Ideal) m g
/-- The reference's frame over the reals. -/
theorem frame_reference : Cert.quiescent_ReferenceIdeal := by
  intro m ρ _
  exact (θ_run Cert.ReferenceIdeal.defs _ _).mono (fun r h => ⟨fun c => (h c).2.2,
      sem_eq_zero_of_no_sems (by decide) r.2⟩) (Cert.ReferenceIdeal.Value.run (F := Ideal) m ρ)

/-- The algebraic equation: from the same real arguments both programs leave the same two results. -/
theorem algebraic : Cert.algebraic_KernelIdeal_ReferenceIdeal_pre_finite_arguments := by
  intro m g m' g' hpre hagree
  refine ⟨fun c => broadcastInDim Cert.KernelIdeal.S16x3x1 ![] Cert.KernelIdeal.Gen.bcast_S_S16x3x1 (constant (F := Ideal) Cert.KernelIdeal.S_ .f32 0x00000000#32),
    fun c => refOf m c, ?_, ?_⟩
  · refine (θ_run Cert.KernelIdeal.defs _ _).mono (fun r h c => ?_) (θ_run_and (Cert.KernelIdeal.Run.run (F := Ideal) m g _ fun _ h => h.1) (Cert.KernelIdeal.Run.frame (F := Ideal) m g))
    exact ⟨((h.1 c).2 _ (Pipeline.mem_restRefs_of Cert.KernelIdeal.main_v22 (by decide) (by decide))).trans (Cert.KernelIdeal.Ending.zeros m c),
      ((h.1 c).2 _ (Pipeline.mem_restRefs_of Cert.KernelIdeal.main_v21 (by decide) (by decide))).trans (pooled_eq m c (holds_of_pre m c hpre)),
      h.2.1 c⟩
  · refine (θ_run Cert.ReferenceIdeal.defs _ _).mono (fun r h c => ⟨(h c).1, (h c).2.1.trans ?_, (h c).2.2⟩) (Cert.ReferenceIdeal.Value.run (F := Ideal) m' g')
    obtain ⟨e0, e1, e2, e3, e4, e5, e6, e7, e8, e9⟩ := hagree c
    rw [Cert.ReferenceIdeal.Stages.res_eq, e0, e1, e2, e3, e4, e5, e6, e7, e8, e9]

/-- Everything that is claimed. -/
theorem claim : Cert.Claim := ⟨Cert.Kernel.Gen.facts, Cert.KernelIdeal.Gen.facts, Cert.ReferenceIdeal.Gen.facts, Cert.Pre_finite_arguments.Gen.facts,
  frame_kernel, frame_ideal, fun m g _ => frame_ideal m g trivial, frame_reference, fun m g _ => frame_reference m g trivial, trivial, algebraic⟩

end Cert.Proof

end
